-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S128x128 : Shape := ⟨2, ![128, 128]⟩
abbrev S8192x128 : Shape := ⟨2, ![8192, 128]⟩
abbrev S128x8320 : Shape := ⟨2, ![128, 8320]⟩
abbrev S2x4x128x2048 : Shape := ⟨4, ![2, 4, 128, 2048]⟩
abbrev S128x8192 : Shape := ⟨2, ![128, 8192]⟩
abbrev S2x4 : Shape := ⟨2, ![2, 4]⟩
abbrev S4 : Shape := ⟨1, ![4]⟩
abbrev S1x1 : Shape := ⟨2, ![1, 1]⟩
abbrev S_ : Shape := ⟨0, ![]⟩
abbrev S1x1x128x2048 : Shape := ⟨4, ![1, 1, 128, 2048]⟩
abbrev S128x2048 : Shape := ⟨2, ![128, 2048]⟩
abbrev S2048x128 : Shape := ⟨2, ![2048, 128]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S128x32768, .f32⟩
  | .hbm, ⟨1, _⟩ => ⟨S128x128, .bf16⟩
  | .hbm, ⟨2, _⟩ => ⟨S128x128, .f32⟩
  | .hbm, ⟨3, _⟩ => ⟨S128x32768, .f32⟩
  | .local _ .vmem, ⟨0, _⟩ => ⟨S128x128, .bf16⟩
  | .local _ .vmem, ⟨1, _⟩ => ⟨S128x128, .f32⟩
  | .local _ .vmem, ⟨2, _⟩ => ⟨S128x128, .f32⟩
  | .local _ .vmem, ⟨3, _⟩ => ⟨S8192x128, .bf16⟩
  | .local _ .vmem, ⟨4, _⟩ => ⟨S128x8320, .bf16⟩
  | .local _ .vmem, ⟨5, _⟩ => ⟨S2x4x128x2048, .f32⟩
  | .local _ .vmem, ⟨6, _⟩ => ⟨S128x8192, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c4_i32 : BitVec 32 := 4#32
  let v7 : BitVec 1 := Scalar.cmpi .slt v6 c4_i32
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_735 : BitVec 32 := 0#32
  ![v2.toNat, 0]
def k0_off2 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_734 : BitVec 32 := 0#32
  let c0_i32_736 : BitVec 32 := 0#32
  let c0_i32_737 : BitVec 32 := 0#32
  ![v2.toNat, 0, 0, 0]
def k0_off3 (i : grid0.Coords) (c0_i32_733 : BitVec 32) : Fin 2 → Nat :=
  let c0_i32_738 : BitVec 32 := 0#32
  let arg0 : BitVec 32 := BitVec.ofNat 32 (i 0).val
  let c1_i32_731 : BitVec 32 := 1#32
  let v822 : BitVec 32 := Scalar.addi arg0 c1_i32_731
  let c8192_i32_732 : BitVec 32 := 8192#32
  let v823 : BitVec 32 := Scalar.muli v822 c8192_i32_732
  let v824 : BitVec 32 := Scalar.addi v823 c0_i32_733
  ![0, v824.toNat]
def k0_off4 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_743 : BitVec 32 := 1#32
  ![v2.toNat, 1]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_742 : BitVec 32 := 1#32
  let c0_i32_744 : BitVec 32 := 0#32
  let c0_i32_745 : BitVec 32 := 0#32
  ![v2.toNat, 1, 0, 0]
def k0_off6 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_751 : BitVec 32 := 2#32
  ![v2.toNat, 2]
def k0_off7 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c2_i32_750 : BitVec 32 := 2#32
  let c0_i32_752 : BitVec 32 := 0#32
  let c0_i32_753 : BitVec 32 := 0#32
  ![v2.toNat, 2, 0, 0]
def k0_off8 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_759 : BitVec 32 := 3#32
  ![v2.toNat, 3]
def k0_off9 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c3_i32_758 : BitVec 32 := 3#32
  let c0_i32_760 : BitVec 32 := 0#32
  let c0_i32_761 : BitVec 32 := 0#32
  ![v2.toNat, 3, 0, 0]
def k0_off10 (i : grid0.Coords) : Fin 2 → Nat :=
  let arg0 : BitVec 32 := BitVec.ofNat 32 (i 0).val
  let c2_i32 : BitVec 32 := 2#32
  let v0 : BitVec 32 := Scalar.remsi arg0 c2_i32
  let c0_i32_11 : BitVec 32 := 0#32
  ![v0.toNat, 0]
def k0_off11 (i : grid0.Coords) : Fin 4 → Nat :=
  let arg0 : BitVec 32 := BitVec.ofNat 32 (i 0).val
  let c2_i32 : BitVec 32 := 2#32
  let v0 : BitVec 32 := Scalar.remsi arg0 c2_i32
  let c0_i32_10 : BitVec 32 := 0#32
  let c0_i32_12 : BitVec 32 := 0#32
  let c0_i32_13 : BitVec 32 := 0#32
  ![v0.toNat, 0, 0, 0]
def k0_off12 (i : grid0.Coords) (c0_i32_9 : BitVec 32) : Fin 2 → Nat :=
  let c0_i32_14 : BitVec 32 := 0#32
  let arg0 : BitVec 32 := BitVec.ofNat 32 (i 0).val
  let c8192_i32 : BitVec 32 := 8192#32
  let v14 : BitVec 32 := Scalar.muli arg0 c8192_i32
  let v15 : BitVec 32 := Scalar.addi v14 c0_i32_9
  ![0, v15.toNat]
def k0_off13 (i : grid0.Coords) : Fin 4 → Nat :=
  let arg0 : BitVec 32 := BitVec.ofNat 32 (i 0).val
  let c2_i32 : BitVec 32 := 2#32
  let v0 : BitVec 32 := Scalar.remsi arg0 c2_i32
  let v21 : Index := Scalar.indexCast v0
  let c0_15 : Index := 0#32
  let c0_16 : Index := 0#32
  let c0_17 : Index := 0#32
  ![v21.toNat, 0, 0, 0]
def k0_cond3 (i : grid0.Coords) : BitVec 1 :=
  let arg0 : BitVec 32 := BitVec.ofNat 32 (i 0).val
  let c0_i32_20 : BitVec 32 := 0#32
  let v29 : BitVec 1 := Scalar.cmpi .sgt arg0 c0_i32_20
  let v30 : BitVec 32 := Scalar.extui v29
  let c0_i32_21 : BitVec 32 := 0#32
  let v31 : BitVec 1 := Scalar.cmpi .ne v30 c0_i32_21
  v31

def k0_off14 (i : grid0.Coords) : Fin 2 → Nat :=
  let c0_i32_735 : BitVec 32 := 0#32
  let arg0 : BitVec 32 := BitVec.ofNat 32 (i 0).val
  let c1_i32_731 : BitVec 32 := 1#32
  let v822 : BitVec 32 := Scalar.subi arg0 c1_i32_731
  let c8192_i32_732 : BitVec 32 := 8192#32
  let v823 : BitVec 32 := Scalar.muli v822 c8192_i32_732
  let c0_i32_733 : BitVec 32 := 0#32
  let v824 : BitVec 32 := Scalar.addi v823 c0_i32_733
  ![0, v824.toNat]
def k0_off15 (i : grid0.Coords) : Fin 2 → Nat :=
  let arg0 : BitVec 32 := BitVec.ofNat 32 (i 0).val
  let c2_i32 : BitVec 32 := 2#32
  let v0 : BitVec 32 := Scalar.remsi arg0 c2_i32
  let c1_i32_191 : BitVec 32 := 1#32
  ![v0.toNat, 1]
def k0_off16 (i : grid0.Coords) : Fin 4 → Nat :=
  let arg0 : BitVec 32 := BitVec.ofNat 32 (i 0).val
  let c2_i32 : BitVec 32 := 2#32
  let v0 : BitVec 32 := Scalar.remsi arg0 c2_i32
  let c1_i32_190 : BitVec 32 := 1#32
  let c0_i32_192 : BitVec 32 := 0#32
  let c0_i32_193 : BitVec 32 := 0#32
  ![v0.toNat, 1, 0, 0]
def k0_off17 (i : grid0.Coords) : Fin 4 → Nat :=
  let arg0 : BitVec 32 := BitVec.ofNat 32 (i 0).val
  let c2_i32 : BitVec 32 := 2#32
  let v0 : BitVec 32 := Scalar.remsi arg0 c2_i32
  let v221 : Index := Scalar.indexCast v0
  let c1 : Index := 1#32
  let c0_195 : Index := 0#32
  let c0_196 : Index := 0#32
  ![v221.toNat, 1, 0, 0]
def k0_cond4 (i : grid0.Coords) : BitVec 1 :=
  let arg0 : BitVec 32 := BitVec.ofNat 32 (i 0).val
  let c0_i32_199 : BitVec 32 := 0#32
  let v229 : BitVec 1 := Scalar.cmpi .sgt arg0 c0_i32_199
  let v230 : BitVec 32 := Scalar.extui v229
  let c0_i32_200 : BitVec 32 := 0#32
  let v231 : BitVec 1 := Scalar.cmpi .ne v230 c0_i32_200
  v231

def k0_off18 (i : grid0.Coords) : Fin 2 → Nat :=
  let c0_i32_735 : BitVec 32 := 0#32
  let arg0 : BitVec 32 := BitVec.ofNat 32 (i 0).val
  let c1_i32_731 : BitVec 32 := 1#32
  let v822 : BitVec 32 := Scalar.subi arg0 c1_i32_731
  let c8192_i32_732 : BitVec 32 := 8192#32
  let v823 : BitVec 32 := Scalar.muli v822 c8192_i32_732
  let c2048_i32_733 : BitVec 32 := 2048#32
  let v824 : BitVec 32 := Scalar.addi v823 c2048_i32_733
  ![0, v824.toNat]
def k0_off19 (i : grid0.Coords) : Fin 2 → Nat :=
  let arg0 : BitVec 32 := BitVec.ofNat 32 (i 0).val
  let c2_i32 : BitVec 32 := 2#32
  let v0 : BitVec 32 := Scalar.remsi arg0 c2_i32
  let c2_i32_370 : BitVec 32 := 2#32
  ![v0.toNat, 2]
def k0_off20 (i : grid0.Coords) : Fin 4 → Nat :=
  let arg0 : BitVec 32 := BitVec.ofNat 32 (i 0).val
  let c2_i32 : BitVec 32 := 2#32
  let v0 : BitVec 32 := Scalar.remsi arg0 c2_i32
  let c2_i32_369 : BitVec 32 := 2#32
  let c0_i32_371 : BitVec 32 := 0#32
  let c0_i32_372 : BitVec 32 := 0#32
  ![v0.toNat, 2, 0, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let v421 : Index := Scalar.indexCast v0
  let c2 : Index := 2#32
  let c0_374 : Index := 0#32
  let c0_375 : Index := 0#32
  ![v421.toNat, 2, 0, 0]
def k0_cond5 (i : grid0.Coords) : BitVec 1 :=
  let arg0 : BitVec 32 := BitVec.ofNat 32 (i 0).val
  let c0_i32_378 : BitVec 32 := 0#32
  let v429 : BitVec 1 := Scalar.cmpi .sgt arg0 c0_i32_378
  let v430 : BitVec 32 := Scalar.extui v429
  let c0_i32_379 : BitVec 32 := 0#32
  let v431 : BitVec 1 := Scalar.cmpi .ne v430 c0_i32_379
  v431

def k0_off22 (i : grid0.Coords) : Fin 2 → Nat :=
  let c0_i32_735 : BitVec 32 := 0#32
  let arg0 : BitVec 32 := BitVec.ofNat 32 (i 0).val
  let c1_i32_731 : BitVec 32 := 1#32
  let v822 : BitVec 32 := Scalar.subi arg0 c1_i32_731
  let c8192_i32_732 : BitVec 32 := 8192#32
  let v823 : BitVec 32 := Scalar.muli v822 c8192_i32_732
  let c4096_i32_733 : BitVec 32 := 4096#32
  let v824 : BitVec 32 := Scalar.addi v823 c4096_i32_733
  ![0, v824.toNat]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c3_i32_548 : BitVec 32 := 3#32
  ![v0.toNat, 3]
def k0_off24 (i : grid0.Coords) : Fin 4 → Nat :=
  let arg0 : BitVec 32 := BitVec.ofNat 32 (i 0).val
  let c2_i32 : BitVec 32 := 2#32
  let v0 : BitVec 32 := Scalar.remsi arg0 c2_i32
  let c3_i32 : BitVec 32 := 3#32
  let c0_i32_549 : BitVec 32 := 0#32
  let c0_i32_550 : BitVec 32 := 0#32
  ![v0.toNat, 3, 0, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let v621 : Index := Scalar.indexCast v0
  let c3 : Index := 3#32
  let c0_552 : Index := 0#32
  let c0_553 : Index := 0#32
  ![v621.toNat, 3, 0, 0]
def k0_cond6 (i : grid0.Coords) : BitVec 1 :=
  let arg0 : BitVec 32 := BitVec.ofNat 32 (i 0).val
  let c0_i32_560 : BitVec 32 := 0#32
  let v634 : BitVec 1 := Scalar.cmpi .sgt arg0 c0_i32_560
  let v635 : BitVec 32 := Scalar.extui v634
  let c0_i32_561 : BitVec 32 := 0#32
  let v636 : BitVec 1 := Scalar.cmpi .ne v635 c0_i32_561
  v636

def k0_off26 (i : grid0.Coords) : Fin 2 → Nat :=
  let c0_i32_735 : BitVec 32 := 0#32
  let arg0 : BitVec 32 := BitVec.ofNat 32 (i 0).val
  let c1_i32_731 : BitVec 32 := 1#32
  let v822 : BitVec 32 := Scalar.subi arg0 c1_i32_731
  let c8192_i32_732 : BitVec 32 := 8192#32
  let v823 : BitVec 32 := Scalar.muli v822 c8192_i32_732
  let c6144_i32_733 : BitVec 32 := 6144#32
  let v824 : BitVec 32 := Scalar.addi v823 c6144_i32_733
  ![0, v824.toNat]
def k0_cond7 (i : grid0.Coords) : BitVec 1 :=
  let arg0 : BitVec 32 := BitVec.ofNat 32 (i 0).val
  let c3_i32_729 : BitVec 32 := 3#32
  let v819 : BitVec 1 := Scalar.cmpi .eq arg0 c3_i32_729
  let v820 : BitVec 32 := Scalar.extui v819
  let c0_i32_730 : BitVec 32 := 0#32
  let v821 : BitVec 1 := Scalar.cmpi .ne v820 c0_i32_730
  v821

def k0_off27 (i : grid0.Coords) (c0_i32_732 : BitVec 32) : Fin 2 → Nat :=
  let c0_i32_734 : BitVec 32 := 0#32
  let arg0 : BitVec 32 := BitVec.ofNat 32 (i 0).val
  let c8192_i32_731 : BitVec 32 := 8192#32
  let v822 : BitVec 32 := Scalar.muli arg0 c8192_i32_731
  let v823 : BitVec 32 := Scalar.addi v822 c0_i32_732
  ![0, v823.toNat]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x32768 : Shape := ⟨2, ![128, 32768]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S_, .f32⟩
  | .hbm, ⟨2, _⟩ => ⟨S_, .f32⟩
  | .hbm, ⟨3, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Names.lean ====
/-
  The pieces the kernel moves, by name. The input and the result, 128 × 32768, are cut into 4 × 4 blocks of 128 × 2048
  columns: block `(k, h)` is quarter `h` of step `k`. The input buffer has two slots of four quarters each, the output
  buffer four quarters, and each quarter has a DMA semaphore of its own. The program slices these at offsets it computes
  from the grid point; the equations below say which piece each such slice is.
-/
module

public import proofs.«01_k».proof.Defs
public import proofs.«01_k».proof.Proof.Gen.KernelIdeal
public import Idealize.ShloMosaic.Lib.Ring
public import Idealize.ShloMosaic.Lib.Tactic

@[expose] public section

noncomputable section

namespace Cert.KernelIdeal.Scan

open Cert.KernelIdeal Cert.KernelIdeal.Gen
open Idealize.ShloMosaic Idealize.ShloMosaic.TcCoe Idealize.ShloMosaic.Tactic

/-! ## The whole buffers -/

/-- The input, left in HBM. -/
abbrev inM : Memref sig .tc .hbm S128x32768 .f32 := Memref.whole main_arg0
/-- The result, left in HBM. -/
abbrev outM : Memref sig .tc .hbm S128x32768 .f32 := Memref.whole main_v0
/-- The carry. -/
abbrev carryM : Memref sig .tc .vmem S128x128 .f32 := Memref.whole cc0_scratch0
/-- The chunk-sum matrix. -/
abbrev gM : Memref sig .tc .vmem S8192x128 .bf16 := Memref.whole cc0_scratch1
/-- The spreading matrix. -/
abbrev sM : Memref sig .tc .vmem S128x8320 .bf16 := Memref.whole cc0_scratch2
/-- The input buffer. -/
abbrev xM : Memref sig .tc .vmem S2x4x128x2048 .f32 := Memref.whole cc0_scratch3
/-- The output buffer. -/
abbrev oM : Memref sig .tc .vmem S128x8192 .f32 := Memref.whole cc0_scratch4

/-! ## Blocks, slots, quarters, semaphores -/

/-- Where block `(k, h)` starts. -/
abbrev blkOff (k h : Fin 4) : Fin 2 → Nat := ![0, 8192 * k.val + 2048 * h.val]
theorem blkOff_inb (k h : Fin 4) : ∀ a, blkOff k h a + S128x2048.size a ≤ S128x32768.size a := by
  have hk := k.isLt; have hh := h.isLt; intro a; fin_cases a
  · show 0 + 128 ≤ 128; omega
  · show 8192 * k.val + 2048 * h.val + 2048 ≤ 32768; omega
/-- Where quarter `h` of slot `p` starts. -/
abbrev slotOff (p : Fin 2) (h : Fin 4) : Fin 4 → Nat := ![p.val, h.val, 0, 0]
theorem slotOff_inb (p : Fin 2) (h : Fin 4) : ∀ a, slotOff p h a + S1x1x128x2048.size a ≤ S2x4x128x2048.size a := by
  have hp := p.isLt; have hh := h.isLt; intro a; fin_cases a
  · show p.val + 1 ≤ 2; omega
  · show h.val + 1 ≤ 4; omega
  · show 0 + 128 ≤ 128; omega
  · show 0 + 2048 ≤ 2048; omega
/-- Where quarter `h` of the output buffer starts. -/
abbrev quartOff (h : Fin 4) : Fin 2 → Nat := ![0, 2048 * h.val]
theorem quartOff_inb (h : Fin 4) : ∀ a, quartOff h a + S128x2048.size a ≤ S128x8192.size a := by
  have hh := h.isLt; intro a; fin_cases a
  · show 0 + 128 ≤ 128; omega
  · show 2048 * h.val + 2048 ≤ 8192; omega
abbrev inSemOff (p : Fin 2) (h : Fin 4) : Fin 2 → Nat := ![p.val, h.val]
theorem inSemOff_inb (p : Fin 2) (h : Fin 4) : ∀ a, inSemOff p h a + S1x1.size a ≤ S2x4.size a := by
  have hp := p.isLt; have hh := h.isLt; intro a; fin_cases a
  · show p.val + 1 ≤ 2; omega
  · show h.val + 1 ≤ 4; omega
abbrev outSemOff (h : Fin 4) : Fin 1 → Nat := ![h.val]
theorem outSemOff_inb (h : Fin 4) : ∀ a, outSemOff h a + S1.size a ≤ S4.size a := by
  have hh := h.isLt; intro a; fin_cases a; show h.val + 1 ≤ 4; omega

/-- Block `(k, h)` of the input. -/
def inBlk (k h : Fin 4) : Memref sig .tc .hbm S128x2048 .f32 :=
  inM.slice (Rect.unit (s := S128x32768) (blkOff k h) S128x2048.size (blkOff_inb k h)) (fun _ => rfl)
/-- Block `(k, h)` of the result. -/
def outBlk (k h : Fin 4) : Memref sig .tc .hbm S128x2048 .f32 :=
  outM.slice (Rect.unit (s := S128x32768) (blkOff k h) S128x2048.size (blkOff_inb k h)) (fun _ => rfl)
/-- Quarter `h` of slot `p` of the input buffer. -/
def xSlot (p : Fin 2) (h : Fin 4) : Memref sig .tc .vmem S128x2048 .f32 :=
  (xM.slice (Rect.unit (s := S2x4x128x2048) (slotOff p h) S1x1x128x2048.size (slotOff_inb p h)) (fun _ => rfl)).squeeze S128x2048
    squeezes_S1x1x128x2048_S128x2048
/-- Quarter `h` of the output buffer. -/
def oQuart (h : Fin 4) : Memref sig .tc .vmem S128x2048 .f32 :=
  oM.slice (Rect.unit (s := S128x8192) (quartOff h) S128x2048.size (quartOff_inb h)) (fun _ => rfl)
/-- The semaphore of quarter `h` of slot `p`. -/
def inSem (p : Fin 2) (h : Fin 4) : DmaSems sig S_ :=
  (cc0_scratch5.slice (Rect.unit (s := S2x4) (inSemOff p h) S1x1.size (inSemOff_inb p h))).squeeze S_ squeezes_S1x1_S_
/-- The semaphore of quarter `h` of the output buffer. -/
def outSem (h : Fin 4) : DmaSems sig S_ :=
  (cc0_scratch6.slice (Rect.unit (s := S4) (outSemOff h) S1.size (outSemOff_inb h))).squeeze S_ squeezes_S1_S_

instance (p : Fin 2) (h : Fin 4) : ClosedOff (slotOff p h) := ⟨slotOff p h, rfl⟩
instance (k h : Fin 4) : ClosedOff (blkOff k h) := ⟨blkOff k h, rfl⟩

/-! ## The step at a grid point -/

/-- The step a grid point is. -/
def cur (i : grid0.Coords) : Fin 4 := ⟨(i 0).val, (i 0).isLt⟩
/-- The step after it (after the last: the first again, not used). -/
def nxt (i : grid0.Coords) : Fin 4 := ⟨((i 0).val + 1) % 4, Nat.mod_lt _ (by decide)⟩
/-- The step before it (before the first: itself, not used). -/
def prv (i : grid0.Coords) : Fin 4 := ⟨(i 0).val - 1, Nat.lt_of_le_of_lt (Nat.sub_le _ _) (i 0).isLt⟩
/-- The slot the step reads. -/
def slot (i : grid0.Coords) : Fin 2 := ⟨(i 0).val % 2, Nat.mod_lt _ (by decide)⟩
/-- The other slot. -/
def oslot (i : grid0.Coords) : Fin 2 := ⟨((i 0).val + 1) % 2, Nat.mod_lt _ (by decide)⟩

/-! ## A slice at the piece's offsets is the piece -/

theorem inBlk_of {off : Fin 2 → Nat} {k h : Fin 4} (e : off = blkOff k h) (hh hs) :
    inM.slice (Rect.unit (s := S128x32768) off S128x2048.size hh) hs = inBlk k h := Memref.slice_unit_congr _ e _ _ _ (fun _ => rfl)
theorem outBlk_of {off : Fin 2 → Nat} {k h : Fin 4} (e : off = blkOff k h) (hh hs) :
    outM.slice (Rect.unit (s := S128x32768) off S128x2048.size hh) hs = outBlk k h := Memref.slice_unit_congr _ e _ _ _ (fun _ => rfl)
theorem xSlot_of {off : Fin 4 → Nat} {p : Fin 2} {h : Fin 4} (e : off = slotOff p h) (hh hs) :
    (xM.slice (Rect.unit (s := S2x4x128x2048) off S1x1x128x2048.size hh) hs).squeeze S128x2048 squeezes_S1x1x128x2048_S128x2048
      = xSlot p h :=
  congrArg (fun M : Memref sig .tc .vmem S1x1x128x2048 .f32 => M.squeeze S128x2048 squeezes_S1x1x128x2048_S128x2048)
    (Memref.slice_unit_congr _ e _ _ _ (fun _ => rfl))
theorem oQuart_of {off : Fin 2 → Nat} {h : Fin 4} (e : off = quartOff h) (hh hs) :
    oM.slice (Rect.unit (s := S128x8192) off S128x2048.size hh) hs = oQuart h := Memref.slice_unit_congr _ e _ _ _ (fun _ => rfl)
theorem inSem_of {off : Fin 2 → Nat} {p : Fin 2} {h : Fin 4} (e : off = inSemOff p h) (hh) :
    (cc0_scratch5.slice (Rect.unit (s := S2x4) off S1x1.size hh)).squeeze S_ squeezes_S1x1_S_ = inSem p h :=
  congrArg (fun A : DmaSems sig S1x1 => A.squeeze S_ squeezes_S1x1_S_) (SemArray.slice_unit_congr _ e _ _)
theorem outSem_of {off : Fin 1 → Nat} {h : Fin 4} (e : off = outSemOff h) (hh) :
    (cc0_scratch6.slice (Rect.unit (s := S4) off S1.size hh)).squeeze S_ squeezes_S1_S_ = outSem h :=
  congrArg (fun A : DmaSems sig S1 => A.squeeze S_ squeezes_S1_S_) (SemArray.slice_unit_congr _ e _ _)

/-! ### The slices the body names by literal offsets

The first step names the blocks of its own row so. -/

theorem slotOff_first (i : grid0.Coords) (h0 : (i 0).val = 0) (h : Fin 4) : ![0, h.val, 0, 0] = slotOff (slot i) h := by
  simp [slotOff, slot, h0]
theorem inSemOff_first (i : grid0.Coords) (h0 : (i 0).val = 0) (h : Fin 4) : ![0, h.val] = inSemOff (slot i) h := by
  simp [inSemOff, slot, h0]
theorem blkOff_first (i : grid0.Coords) (h0 : (i 0).val = 0) (h : Fin 4) : ![0, 2048 * h.val] = blkOff (cur i) h := by
  simp [blkOff, cur, h0]

@[sl_canon] theorem outSem_p0 (hh) : (cc0_scratch6.slice (Rect.unit (s := S4) (![0]) S1.size hh)).squeeze S_ squeezes_S1_S_ = outSem 0 := outSem_of (by decide) _
@[sl_canon] theorem oQuart_p0 (hh hs) : oM.slice (Rect.unit (s := S128x8192) (![0, 0]) S128x2048.size hh) hs = oQuart 0 := oQuart_of (by decide) _ _
@[sl_canon] theorem outSem_p1 (hh) : (cc0_scratch6.slice (Rect.unit (s := S4) (![1]) S1.size hh)).squeeze S_ squeezes_S1_S_ = outSem 1 := outSem_of (by decide) _
@[sl_canon] theorem oQuart_p1 (hh hs) : oM.slice (Rect.unit (s := S128x8192) (![0, 2048]) S128x2048.size hh) hs = oQuart 1 := oQuart_of (by decide) _ _
@[sl_canon] theorem outSem_p2 (hh) : (cc0_scratch6.slice (Rect.unit (s := S4) (![2]) S1.size hh)).squeeze S_ squeezes_S1_S_ = outSem 2 := outSem_of (by decide) _
@[sl_canon] theorem oQuart_p2 (hh hs) : oM.slice (Rect.unit (s := S128x8192) (![0, 4096]) S128x2048.size hh) hs = oQuart 2 := oQuart_of (by decide) _ _
@[sl_canon] theorem outSem_p3 (hh) : (cc0_scratch6.slice (Rect.unit (s := S4) (![3]) S1.size hh)).squeeze S_ squeezes_S1_S_ = outSem 3 := outSem_of (by decide) _
@[sl_canon] theorem oQuart_p3 (hh hs) : oM.slice (Rect.unit (s := S128x8192) (![0, 6144]) S128x2048.size hh) hs = oQuart 3 := oQuart_of (by decide) _ _

/-! ### The slices of the next step's copies into the input buffer -/

theorem off3_blk : ∀ i : grid0.Coords, (i 0).val < 3 → ∀ r : Fin 4, k0_off3 i (BitVec.ofNat 32 (2048 * r.val)) = blkOff (nxt i) r := by
  decide +kernel
@[sl_canon] theorem inSem_n0 (i : grid0.Coords) (hh) : (cc0_scratch5.slice (Rect.unit (s := S2x4) (k0_off1 i) S1x1.size hh)).squeeze S_ squeezes_S1x1_S_ = inSem (oslot i) 0 := inSem_of (k0_off1_eq i) _
@[sl_canon] theorem xSlot_n0 (i : grid0.Coords) (hh hs) : (xM.slice (Rect.unit (s := S2x4x128x2048) (k0_off2 i) S1x1x128x2048.size hh) hs).squeeze S128x2048 squeezes_S1x1x128x2048_S128x2048 = xSlot (oslot i) 0 := xSlot_of (k0_off2_eq i) _ _
@[sl_canon] theorem inBlk_n0 (i : grid0.Coords) (hn : (i 0).val < 3) (hh hs) : inM.slice (Rect.unit (s := S128x32768) (k0_off3 i 0#32) S128x2048.size hh) hs = inBlk (nxt i) 0 := inBlk_of (off3_blk i hn 0) _ _
@[sl_canon] theorem inSem_n1 (i : grid0.Coords) (hh) : (cc0_scratch5.slice (Rect.unit (s := S2x4) (k0_off4 i) S1x1.size hh)).squeeze S_ squeezes_S1x1_S_ = inSem (oslot i) 1 := inSem_of (k0_off4_eq i) _
@[sl_canon] theorem xSlot_n1 (i : grid0.Coords) (hh hs) : (xM.slice (Rect.unit (s := S2x4x128x2048) (k0_off5 i) S1x1x128x2048.size hh) hs).squeeze S128x2048 squeezes_S1x1x128x2048_S128x2048 = xSlot (oslot i) 1 := xSlot_of (k0_off5_eq i) _ _
@[sl_canon] theorem inBlk_n1 (i : grid0.Coords) (hn : (i 0).val < 3) (hh hs) : inM.slice (Rect.unit (s := S128x32768) (k0_off3 i 2048#32) S128x2048.size hh) hs = inBlk (nxt i) 1 := inBlk_of (off3_blk i hn 1) _ _
@[sl_canon] theorem inSem_n2 (i : grid0.Coords) (hh) : (cc0_scratch5.slice (Rect.unit (s := S2x4) (k0_off6 i) S1x1.size hh)).squeeze S_ squeezes_S1x1_S_ = inSem (oslot i) 2 := inSem_of (k0_off6_eq i) _
@[sl_canon] theorem xSlot_n2 (i : grid0.Coords) (hh hs) : (xM.slice (Rect.unit (s := S2x4x128x2048) (k0_off7 i) S1x1x128x2048.size hh) hs).squeeze S128x2048 squeezes_S1x1x128x2048_S128x2048 = xSlot (oslot i) 2 := xSlot_of (k0_off7_eq i) _ _
@[sl_canon] theorem inBlk_n2 (i : grid0.Coords) (hn : (i 0).val < 3) (hh hs) : inM.slice (Rect.unit (s := S128x32768) (k0_off3 i 4096#32) S128x2048.size hh) hs = inBlk (nxt i) 2 := inBlk_of (off3_blk i hn 2) _ _
@[sl_canon] theorem inSem_n3 (i : grid0.Coords) (hh) : (cc0_scratch5.slice (Rect.unit (s := S2x4) (k0_off8 i) S1x1.size hh)).squeeze S_ squeezes_S1x1_S_ = inSem (oslot i) 3 := inSem_of (k0_off8_eq i) _
@[sl_canon] theorem xSlot_n3 (i : grid0.Coords) (hh hs) : (xM.slice (Rect.unit (s := S2x4x128x2048) (k0_off9 i) S1x1x128x2048.size hh) hs).squeeze S128x2048 squeezes_S1x1x128x2048_S128x2048 = xSlot (oslot i) 3 := xSlot_of (k0_off9_eq i) _ _
@[sl_canon] theorem inBlk_n3 (i : grid0.Coords) (hn : (i 0).val < 3) (hh hs) : inM.slice (Rect.unit (s := S128x32768) (k0_off3 i 6144#32) S128x2048.size hh) hs = inBlk (nxt i) 3 := inBlk_of (off3_blk i hn 3) _ _

/-! ### The slices of the step itself, and of the copies of the step before it -/

@[sl_canon] theorem inSem_c0 (i : grid0.Coords) (hh) : (cc0_scratch5.slice (Rect.unit (s := S2x4) (k0_off10 i) S1x1.size hh)).squeeze S_ squeezes_S1x1_S_ = inSem (slot i) 0 := inSem_of (k0_off10_eq i) _
@[sl_canon] theorem xSlot_c0 (i : grid0.Coords) (hh hs) : (xM.slice (Rect.unit (s := S2x4x128x2048) (k0_off11 i) S1x1x128x2048.size hh) hs).squeeze S128x2048 squeezes_S1x1x128x2048_S128x2048 = xSlot (slot i) 0 := xSlot_of (k0_off11_eq i) _ _
instance closedSlot0 (i : grid0.Coords) : ClosedOff (k0_off13 i) := ⟨slotOff (slot i) 0, k0_off13_eq i⟩
@[sl_canon] theorem inBlk_c0 (i : grid0.Coords) (hh hs) : inM.slice (Rect.unit (s := S128x32768) (k0_off12 i 0#32) S128x2048.size hh) hs = inBlk (cur i) 0 := inBlk_of (k0_off12_eq i 0) _ _
@[sl_canon] theorem outBlk_c0 (i : grid0.Coords) (hh hs) : outM.slice (Rect.unit (s := S128x32768) (k0_off12 i 0#32) S128x2048.size hh) hs = outBlk (cur i) 0 := outBlk_of (k0_off12_eq i 0) _ _
@[sl_canon] theorem outBlk_l0 (i : grid0.Coords) (hh hs) : outM.slice (Rect.unit (s := S128x32768) (k0_off27 i 0#32) S128x2048.size hh) hs = outBlk (cur i) 0 := outBlk_of (k0_off27_eq i 0) _ _
theorem off14_blk : ∀ i : grid0.Coords, 0 < (i 0).val → k0_off14 i = blkOff (prv i) 0 := by decide +kernel
@[sl_canon] theorem outBlk_v0 (i : grid0.Coords) (hv : 0 < (i 0).val) (hh hs) : outM.slice (Rect.unit (s := S128x32768) (k0_off14 i) S128x2048.size hh) hs = outBlk (prv i) 0 := outBlk_of (off14_blk i hv) _ _
@[sl_canon] theorem inSem_c1 (i : grid0.Coords) (hh) : (cc0_scratch5.slice (Rect.unit (s := S2x4) (k0_off15 i) S1x1.size hh)).squeeze S_ squeezes_S1x1_S_ = inSem (slot i) 1 := inSem_of (k0_off15_eq i) _
@[sl_canon] theorem xSlot_c1 (i : grid0.Coords) (hh hs) : (xM.slice (Rect.unit (s := S2x4x128x2048) (k0_off16 i) S1x1x128x2048.size hh) hs).squeeze S128x2048 squeezes_S1x1x128x2048_S128x2048 = xSlot (slot i) 1 := xSlot_of (k0_off16_eq i) _ _
instance closedSlot1 (i : grid0.Coords) : ClosedOff (k0_off17 i) := ⟨slotOff (slot i) 1, k0_off17_eq i⟩
@[sl_canon] theorem inBlk_c1 (i : grid0.Coords) (hh hs) : inM.slice (Rect.unit (s := S128x32768) (k0_off12 i 2048#32) S128x2048.size hh) hs = inBlk (cur i) 1 := inBlk_of (k0_off12_eq i 1) _ _
@[sl_canon] theorem outBlk_c1 (i : grid0.Coords) (hh hs) : outM.slice (Rect.unit (s := S128x32768) (k0_off12 i 2048#32) S128x2048.size hh) hs = outBlk (cur i) 1 := outBlk_of (k0_off12_eq i 1) _ _
@[sl_canon] theorem outBlk_l1 (i : grid0.Coords) (hh hs) : outM.slice (Rect.unit (s := S128x32768) (k0_off27 i 2048#32) S128x2048.size hh) hs = outBlk (cur i) 1 := outBlk_of (k0_off27_eq i 1) _ _
theorem off18_blk : ∀ i : grid0.Coords, 0 < (i 0).val → k0_off18 i = blkOff (prv i) 1 := by decide +kernel
@[sl_canon] theorem outBlk_v1 (i : grid0.Coords) (hv : 0 < (i 0).val) (hh hs) : outM.slice (Rect.unit (s := S128x32768) (k0_off18 i) S128x2048.size hh) hs = outBlk (prv i) 1 := outBlk_of (off18_blk i hv) _ _
@[sl_canon] theorem inSem_c2 (i : grid0.Coords) (hh) : (cc0_scratch5.slice (Rect.unit (s := S2x4) (k0_off19 i) S1x1.size hh)).squeeze S_ squeezes_S1x1_S_ = inSem (slot i) 2 := inSem_of (k0_off19_eq i) _
@[sl_canon] theorem xSlot_c2 (i : grid0.Coords) (hh hs) : (xM.slice (Rect.unit (s := S2x4x128x2048) (k0_off20 i) S1x1x128x2048.size hh) hs).squeeze S128x2048 squeezes_S1x1x128x2048_S128x2048 = xSlot (slot i) 2 := xSlot_of (k0_off20_eq i) _ _
instance closedSlot2 (i : grid0.Coords) : ClosedOff (k0_off21 i) := ⟨slotOff (slot i) 2, k0_off21_eq i⟩
@[sl_canon] theorem inBlk_c2 (i : grid0.Coords) (hh hs) : inM.slice (Rect.unit (s := S128x32768) (k0_off12 i 4096#32) S128x2048.size hh) hs = inBlk (cur i) 2 := inBlk_of (k0_off12_eq i 2) _ _
@[sl_canon] theorem outBlk_c2 (i : grid0.Coords) (hh hs) : outM.slice (Rect.unit (s := S128x32768) (k0_off12 i 4096#32) S128x2048.size hh) hs = outBlk (cur i) 2 := outBlk_of (k0_off12_eq i 2) _ _
@[sl_canon] theorem outBlk_l2 (i : grid0.Coords) (hh hs) : outM.slice (Rect.unit (s := S128x32768) (k0_off27 i 4096#32) S128x2048.size hh) hs = outBlk (cur i) 2 := outBlk_of (k0_off27_eq i 2) _ _
theorem off22_blk : ∀ i : grid0.Coords, 0 < (i 0).val → k0_off22 i = blkOff (prv i) 2 := by decide +kernel
@[sl_canon] theorem outBlk_v2 (i : grid0.Coords) (hv : 0 < (i 0).val) (hh hs) : outM.slice (Rect.unit (s := S128x32768) (k0_off22 i) S128x2048.size hh) hs = outBlk (prv i) 2 := outBlk_of (off22_blk i hv) _ _
@[sl_canon] theorem inSem_c3 (i : grid0.Coords) (hh) : (cc0_scratch5.slice (Rect.unit (s := S2x4) (k0_off23 i) S1x1.size hh)).squeeze S_ squeezes_S1x1_S_ = inSem (slot i) 3 := inSem_of (k0_off23_eq i) _
@[sl_canon] theorem xSlot_c3 (i : grid0.Coords) (hh hs) : (xM.slice (Rect.unit (s := S2x4x128x2048) (k0_off24 i) S1x1x128x2048.size hh) hs).squeeze S128x2048 squeezes_S1x1x128x2048_S128x2048 = xSlot (slot i) 3 := xSlot_of (k0_off24_eq i) _ _
instance closedSlot3 (i : grid0.Coords) : ClosedOff (k0_off25 i) := ⟨slotOff (slot i) 3, k0_off25_eq i⟩
@[sl_canon] theorem inBlk_c3 (i : grid0.Coords) (hh hs) : inM.slice (Rect.unit (s := S128x32768) (k0_off12 i 6144#32) S128x2048.size hh) hs = inBlk (cur i) 3 := inBlk_of (k0_off12_eq i 3) _ _
@[sl_canon] theorem outBlk_c3 (i : grid0.Coords) (hh hs) : outM.slice (Rect.unit (s := S128x32768) (k0_off12 i 6144#32) S128x2048.size hh) hs = outBlk (cur i) 3 := outBlk_of (k0_off12_eq i 3) _ _
@[sl_canon] theorem outBlk_l3 (i : grid0.Coords) (hh hs) : outM.slice (Rect.unit (s := S128x32768) (k0_off27 i 6144#32) S128x2048.size hh) hs = outBlk (cur i) 3 := outBlk_of (k0_off27_eq i 3) _ _
theorem off26_blk : ∀ i : grid0.Coords, 0 < (i 0).val → k0_off26 i = blkOff (prv i) 3 := by decide +kernel
@[sl_canon] theorem outBlk_v3 (i : grid0.Coords) (hv : 0 < (i 0).val) (hh hs) : outM.slice (Rect.unit (s := S128x32768) (k0_off26 i) S128x2048.size hh) hs = outBlk (prv i) 3 := outBlk_of (off26_blk i hv) _ _

end Cert.KernelIdeal.Scan

end
-- ==== Proof.Model.lean ====
module

public import proofs.«01_k».proof.Proof.Names
public import proofs.«01_k».proof.Proof.Gen.KernelIdeal.Skeleton
public import Idealize.ShloMosaic.Lib.WritesUnit
public import Idealize.ShloMosaic.Lib.ValueIdxCore

/-!
# What one step of the kernel computes

A step works on a row of four blocks of 128 × 2048 numbers.  Everything below is stated for any float
instance, as plain functions of the vectors the step reads: the triangle `T`, the mask `M`, the
grouping matrix `G`, the spreading matrix `S`, the carried column table `C` and the four blocks `X`.
-/

@[expose] public section

noncomputable section

namespace Cert.KernelIdeal.Scan

open Cert.KernelIdeal Cert.KernelIdeal.Gen
open Idealize.ShloMosaic Idealize.ShloMosaic.TcCoe
open Idealize.ShloMosaic.ValueIdx

variable {F : FTy → Type} [FloatOps F]

/-- A block: 128 rows of 2048 numbers. -/
abbrev Blk (F : FTy → Type) : Type := FVec F S128x2048 .f32

theorem subX_inb (n : Fin 16) : ∀ a, (![0, 128 * n.val] : Fin 2 → ℕ) a + S128x128.size a ≤ S128x2048.size a := by
  intro a; have := n.isLt; fin_cases a <;> simp <;> omega

theorem subS_inb (n : Fin 65) : ∀ a, (![0, 128 * n.val] : Fin 2 → ℕ) a + S128x128.size a ≤ S128x8320.size a := by
  intro a; have := n.isLt; fin_cases a <;> simp <;> omega

theorem subG_inb (n : Fin 4) : ∀ a, (![2048 * n.val, 0] : Fin 2 → ℕ) a + S2048x128.size a ≤ S8192x128.size a := by
  intro a; have := n.isLt; fin_cases a <;> simp <;> omega

/-- Chunk `n` of a block: its columns `128 n … 128 n + 127`. -/
def subX (X : Blk F) (n : Fin 16) : FVec F S128x128 .f32 :=
  fun y => X ((Rect.unit (s := S128x2048) ![0, 128 * n.val] S128x128.size (subX_inb n)).emb y)

/-- Group `n` of the spreading matrix: its columns `128 n … 128 n + 127`. -/
def subS (S : FVec F S128x8320 .bf16) (n : Fin 65) : FVec F S128x128 .bf16 :=
  fun y => S ((Rect.unit (s := S128x8320) ![0, 128 * n.val] S128x128.size (subS_inb n)).emb y)

/-- The rows of the grouping matrix that belong to block `n` of a step. -/
def subG (G : FVec F S8192x128 .bf16) (n : Fin 4) : FVec F S2048x128 .bf16 :=
  fun y => G ((Rect.unit (s := S8192x128) ![2048 * n.val, 0] S2048x128.size (subG_inb n)).emb y)

/-- A table of zeros. -/
def zeros : FVec F S128x128 .f32 := constant S128x128 .f32 0x00000000#32

/-- The table of chunk sums `t` with the chunk sums of block `n` added. -/
def accum (G : FVec F S8192x128 .bf16) (t : FVec F S128x128 .f32) (X : Blk F) (n : Fin 4) : FVec F S128x128 .f32 :=
  addf t (matmul dot_S128x2048_S2048x128_S128x128_1_0_0_1_n_n none (truncf .bf16 X bitsLt_bf16_f32) (subG G n) zeros)

/-- The table of chunk sums after blocks `0 … n`: it starts from the masked carry. -/
def table (M : FVec F S128x128 .f32) (G : FVec F S8192x128 .bf16) (C : FVec F S128x128 .f32) (X : Fin 4 → Blk F) :
    ℕ → FVec F S128x128 .f32
  | 0 => accum G (mulf C M) (X 0) 0
  | n + 1 => accum G (table M G C X n) (X (Fin.ofNat 4 (n + 1))) (Fin.ofNat 4 (n + 1))

/-- The table spread over group `n`. -/
def spread (S : FVec F S128x8320 .bf16) (t : FVec F S128x128 .f32) (n : Fin 65) : FVec F S128x128 .f32 :=
  matmul dot_S128x128_S128x128_S128x128_1_0_0_1_n_n none (truncf .bf16 t bitsLt_bf16_f32) (subS S n) zeros

theorem group_lt (h : Fin 4) (n : Fin 16) : 16 * h.val + n.val < 65 := by omega

/-- The result of chunk `n` of block `h`, from the block and the table of chunk sums. -/
def chunk (T : FVec F S128x128 .bf16) (S : FVec F S128x8320 .bf16) (t : FVec F S128x128 .f32) (X : Blk F) (h : Fin 4)
    (n : Fin 16) : FVec F S128x128 .f32 :=
  shapeCast S128x128 (addf
    (matmul dot_S128x128_S128x128_S128x128_1_0_0_1_n_n none (truncf .bf16 (subX X n) bitsLt_bf16_f32) T zeros)
    (spread S t ⟨16 * h.val + n.val, group_lt h n⟩)) shapeCasts_S128x128_S128x128

theorem col_div (y : S128x2048.Idx) : (y 1).val / 128 < 16 := by
  have : (y 1).val < 2048 := (y 1).isLt
  omega

theorem col_mod (y : S128x2048.Idx) : (y 1).val % 128 < 128 := Nat.mod_lt _ (by norm_num)

/-- Sixteen chunks of 128 columns laid side by side. -/
def beside (P : Fin 16 → FVec F S128x128 .f32) : Blk F :=
  fun y => P ⟨(y 1).val / 128, col_div y⟩ (ix2 (y 0) ⟨(y 1).val % 128, col_mod y⟩)

/-- The result of block `h` of a step. -/
def result (T : FVec F S128x128 .bf16) (M : FVec F S128x128 .f32) (G : FVec F S8192x128 .bf16) (S : FVec F S128x8320 .bf16)
    (C : FVec F S128x128 .f32) (X : Fin 4 → Blk F) (h : Fin 4) : Blk F :=
  beside (chunk T S (table M G C X h.val) (X h) h)

/-- The carry a step leaves for the next one. -/
def carryOut (M : FVec F S128x128 .f32) (G : FVec F S8192x128 .bf16) (S : FVec F S128x8320 .bf16)
    (C : FVec F S128x128 .f32) (X : Fin 4 → Blk F) : FVec F S128x128 .f32 :=
  shapeCast S128x128 (spread S (table M G C X 3) 64) shapeCasts_S128x128_S128x128

/-- The carry the first step starts from. -/
def carry0 : FVec F S128x128 .f32 := k0_pay2 (k0_pay1 (F := F))

/-- The grouping matrix the first step writes. -/
def Gmat : FVec F S8192x128 .bf16 := k0_pay3

/-- The spreading matrix the first step writes. -/
def Smat : FVec F S128x8320 .bf16 :=
  k0_pay7 (F := F) (iota .tc S128x8320 32 [0] iota_S128x8320_d0_w32) (iota .tc S128x8320 32 [1] iota_S128x8320_d1_w32) 128#32 k0_pay4 k0_pay5 k0_pay6

/-! ## The stores of a block, and what they leave -/

theorem chunkOff_inb (h : Fin 4) (n : Fin 16) :
    ∀ a, (![0, 2048 * h.val + 128 * n.val] : Fin 2 → ℕ) a + S128x128.size a ≤ S128x8192.size a := by
  intro a; fin_cases a <;> simp <;> omega

/-- The result buffer after the sixteen chunk stores of block `h`. -/
def stored (h : Fin 4) (f : oM.view.ty.Contents (Elt F)) (P : Fin 16 → FVec F S128x128 .f32) : oM.view.ty.Contents (Elt F) :=
  oM.view.writes (Elt F) f (View.tilePieces (Val := Elt F) (s := S128x8192) (e := .f32) S128x128.size
    (fun n : Fin 16 => ![0, 2048 * h.val + 128 * n.val]) (chunkOff_inb h) P 16 le_rfl)

/-- Reading block `h` of the result buffer after its sixteen chunk stores gives the chunks side by side. -/
theorem read_stored (h : Fin 4) (f : oM.view.ty.Contents (Elt F)) (P : Fin 16 → FVec F S128x128 .f32) :
    (oQuart h).view.read (Elt F) (stored h f P) = beside P := by
  funext y
  refine (View.read_tilePieces (Val := Elt F) oM.view f S128x128.size (fun n : Fin 16 => ![0, 2048 * h.val + 128 * n.val])
    (chunkOff_inb h) P 16 le_rfl ((Rect.unit (s := S128x8192) (quartOff h) S128x2048.size (quartOff_inb h)).emb y)
    ⟨(y 1).val / 128, col_div y⟩ (col_div y) (ix2 (y 0) ⟨(y 1).val % 128, col_mod y⟩) ?_ 1 ?_)
  · intro a
    fin_cases a
    · simp [Rect.emb_apply, quartOff]
    · simp [Rect.emb_apply, quartOff]; omega
  · intro n hn
    have hne : n.val ≠ (y 1).val / 128 := fun e => hn (Fin.ext e)
    have : (y 1).val < 2048 := (y 1).isLt
    simp [Rect.emb_apply, quartOff]
    omega

/-- A slot read as a whole through the four-axis staging buffer is the slot read through its own memref. -/
theorem cast_slot (p : Fin 2) (h : Fin 4) (off : Fin 4 → ℕ) (e : off = slotOff p h)
    (inb : ∀ a, off a + S1x1x128x2048.size a ≤ S2x4x128x2048.size a) (g : xM.view.ty.Contents (Elt F)) :
    shapeCast S128x2048 (xM.view.readAt (Elt F) (Rect.unit (s := S2x4x128x2048) off S1x1x128x2048.size inb).toLoadRect g)
      shapeCasts_S1x1x128x2048_S128x2048 = (xSlot p h).view.read (Elt F) g := by
  subst e; rfl

end Cert.KernelIdeal.Scan
-- ==== Proof.State.lean ====
module

public import proofs.«01_k».proof.Proof.Model
public import proofs.«01_k».proof.Proof.Gen.KernelIdeal.Frame
public import proofs.«01_k».proof.Proof.Gen.KernelIdeal.Points
public import Idealize.ShloMosaic.Lib.Pipeline.FrameValue

/-!
# What a core holds between two steps

The assertions of this file describe the pieces a step passes on: blocks of the argument and of the
result in HBM, slots of the input buffer, quarters of the output buffer, and the copies between them,
either at rest or in flight.  Each assertion speaks of the four blocks of one row.
-/

@[expose] public section

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD)

/-- The elements of `M`, held whole, at the contents `f` of its buffer. -/
abbrev at_ {sp : Space} {S : Shape} {e : EltTy} (M : Memref sig .tc sp S e) (f : Buf (Elt F) (M.view.loc (c : Thread nD τ))) : sProp 𝕄 :=
  M.view.loc (c : Thread nD τ) ↦[M.view.set]{fullShare} f

/-- The semaphore `s`, at rest. -/
abbrev cnt (s : DmaSems sig S_) : sProp 𝕄 := semVal ((c : Thread nD τ), SemLoc.dma s.sem) 0

/-- A copy of one block in flight on the semaphore `s`; its wait gives `P`. -/
abbrev fly (s : DmaSems sig S_) (P : sProp 𝕄) : sProp 𝕄 :=
  Transfers.Flight (countersEmb (U := Pipeline.UD sig nD τ)) (c : Thread nD τ) (SemLoc.dma s.sem) () 32768 P

/-- `P` of each of the four blocks of a row. -/
abbrev four (P : Fin 4 → sProp 𝕄) : sProp 𝕄 := iprop(P 0 ∗ P 1 ∗ P 2 ∗ P 3)

/-- The contents of the argument in HBM. -/
abbrev ArgBuf : Type := Buf (Elt F) ((inM : Memref sig .tc _ _ _).view.loc (c : Thread nD τ))

/-- Block `(k, h)` of the argument. -/
abbrev argBlk (A : ArgBuf (F := F) c) (k h : Fin 4) : Blk F := (inBlk k h).view.read (Elt F) A

/-- Row `k` of the argument, at rest. -/
abbrev Xrow (A : ArgBuf (F := F) c) (k : Fin 4) : sProp 𝕄 := four fun h => at_ c (inBlk k h) A

/-- Row `k` of the result, not written yet. -/
abbrev Orow (k : Fin 4) : sProp 𝕄 := four fun h => iprop(∃ f, at_ c (outBlk k h) f)

/-- Row `k` of the result, written with `y`. -/
abbrev Drow (k : Fin 4) (y : Fin 4 → Blk F) : sProp 𝕄 :=
  four fun h => iprop(∃ f, at_ c (outBlk k h) f ∗ ⌜(outBlk k h).view.read (Elt F) f = y h⌝)

/-- The slots of side `p` of the input buffer, free. -/
abbrev FreeSlots (p : Fin 2) : sProp 𝕄 := four fun h => iprop((∃ f, at_ c (xSlot p h) f) ∗ cnt c (inSem p h))

/-- Row `k` of the argument on its way into side `p` of the input buffer. -/
abbrev InFlight (A : ArgBuf (F := F) c) (k : Fin 4) (p : Fin 2) : sProp 𝕄 :=
  four fun h => iprop(∃ g, fly c (inSem p h) iprop(at_ c (xSlot p h) g ∗ at_ c (inBlk k h) A)
    ∗ ⌜(xSlot p h).view.read (Elt F) g = argBlk c A k h⌝)

/-- The output buffer, free. -/
abbrev FreeQuarts : sProp 𝕄 := four fun h => iprop((∃ f, at_ c (oQuart h) f) ∗ cnt c (outSem h))

/-- The output buffer on its way to row `k` of the result, which will hold `y`. -/
abbrev OutFlight (k : Fin 4) (y : Fin 4 → Blk F) : sProp 𝕄 :=
  four fun h => iprop(∃ f q, fly c (outSem h) iprop(at_ c (outBlk k h) f ∗ at_ c (oQuart h) q)
    ∗ ⌜(outBlk k h).view.read (Elt F) f = y h⌝)

/-- The buffer of `M`, whose contents read `v`. -/
abbrev reads {sp : Space} {S : Shape} {e : EltTy} (M : Memref sig .tc sp S e) (v : S.Idx → Elt F e) : sProp 𝕄 :=
  iprop(∃ f, at_ c M f ∗ ⌜M.view.read (Elt F) f = v⌝)

/-- The carry, at `C`, and the two matrices the first step writes. -/
abbrev Tables (C : FVec F S128x128 .f32) : sProp 𝕄 :=
  iprop(reads c carryM C ∗ reads c gM (Gmat (F := F)) ∗ reads c sM (Smat (F := F)))

/-- The carry and the two matrices at anything. -/
abbrev AnyTables : sProp 𝕄 := iprop((∃ f, at_ c carryM f) ∗ (∃ f, at_ c gM f) ∗ (∃ f, at_ c sM f))

end

/-! ## What a finished copy leaves -/

/-- A block that was the target of a whole copy reads what was copied. -/
theorem landed {sp : Space} {S : Shape} {e : EltTy} (M : Memref sig .tc sp S e) (f : M.view.ty.Contents (Elt F)) (w : S.Idx → Elt F e) :
    M.view.read (Elt F) (M.view.writes (Elt F) f [⟨Rect.whole S, ReadAs.same.apply w⟩]) = w := by
  funext y
  have := View.read_writes_cons_emb (Val := Elt F) M.view f (Rect.whole S) (ReadAs.same.apply w) [] y
  rw [Rect.emb_whole_apply] at this
  exact this

/-- The copy of a block of the output buffer, after its sixteen chunk stores, leaves the chunks side by side in the result. -/
theorem landed_stored (k h : Fin 4) (o : (outBlk k h).view.ty.Contents (Elt F)) (q W : oM.view.ty.Contents (Elt F))
    (P : Fin 16 → FVec F S128x128 .f32) (e : W = stored h q P) :
    (outBlk k h).view.read (Elt F) ((outBlk k h).view.writes (Elt F) o
      [⟨Rect.whole S128x2048, ReadAs.same.apply ((oQuart h).view.read (Elt F) W)⟩]) = beside P := by
  rw [landed, e, read_stored]

/-- A whole load reads the contents through the view. -/
theorem readAt_all {κ : Kind} {sp : Space} {s : Shape} {e : EltTy} (v : View sig κ sp s e) (off : Fin s.rank → ℕ) (h : off = fun _ => 0)
    (inb : ∀ a, off a + s.size a ≤ s.size a) (f : v.ty.Contents (Elt F)) :
    v.readAt (Elt F) (Rect.unit (s := s) off s.size inb).toLoadRect f = v.read (Elt F) f := by
  subst h
  funext x
  show v.read (Elt F) f _ = _
  congr 1
  funext a
  apply Fin.ext
  simp [LoadRect.idx_apply]

/-- A whole store leaves what was stored. -/
theorem read_store_all {κ : Kind} {sp : Space} {s : Shape} {e : EltTy} (v : View sig κ sp s e) (off : Fin s.rank → ℕ) (h : off = fun _ => 0)
    (inb : ∀ a, off a + s.size a ≤ s.size a) (f : v.ty.Contents (Elt F)) (w : s.Idx → Elt F e) :
    v.read (Elt F) (v.writes (Elt F) f [⟨Rect.unit (s := s) off s.size inb, w⟩]) = w := by
  subst h
  funext y
  exact View.read_writes_cons_unit_of_mem (Val := Elt F) v f inb w [] y y rfl (fun a => (Nat.zero_add _).symm)

/-! ## Contents known only by what they read -/

section
variable (c : Dev nD)

/-- A buffer stored as a whole reads what was stored. -/
theorem reads_store {sp : Space} {s : Shape} {e : EltTy} (M : Memref sig .tc sp s e) (off : Fin s.rank → ℕ) (h : off = fun _ => 0)
    (inb : ∀ a, off a + s.size a ≤ s.size a) (f : Buf (Elt F) (M.view.loc (c : Thread nD τ))) (w : s.Idx → Elt F e)
    (L : List (View.Piece (Elt F) s e)) (hL : L = [⟨Rect.unit (s := s) off s.size inb, w⟩]) :
    (at_ c M (M.view.writes (Elt F) f L) : sProp 𝕄) ⊢ reads c M w := by
  subst hL
  iintro H
  iexists _
  isplitl [H]
  · iexact H
  · ipureintro; exact read_store_all M.view off h inb f w

/-- A copy in flight into a slot brings what its source block reads. -/
theorem flies_landed (A : ArgBuf (F := F) c) (k h : Fin 4) (p : Fin 2) (f : Buf (Elt F) ((xSlot p h).view.loc (c : Thread nD τ)))
    (w : Blk F) (hw : w = argBlk c A k h) :
    (fly c (inSem p h) iprop(at_ c (xSlot p h) ((xSlot p h).view.writes (Elt F) f [⟨Rect.whole S128x2048, w⟩])
      ∗ at_ c (inBlk k h) A) : sProp 𝕄)
    ⊢ iprop(∃ g, fly c (inSem p h) iprop(at_ c (xSlot p h) g ∗ at_ c (inBlk k h) A)
        ∗ ⌜(xSlot p h).view.read (Elt F) g = argBlk c A k h⌝) := by
  subst hw
  iintro H
  iexists _
  isplitl [H]
  · iexact H
  · ipureintro; exact landed _ _ _

end

/-! ## The two facts a step's run is compared with

The run reads its operands through loads; primed letters are the operands as loaded. -/

/-- The copy out of block `h` leaves the model's result for it. -/
theorem result_left (k h : Fin 4) (o : (outBlk k h).view.ty.Contents (Elt F)) (q W : oM.view.ty.Contents (Elt F))
    {T T' : FVec F S128x128 .bf16} {M M' : FVec F S128x128 .f32} {G G' : FVec F S8192x128 .bf16} {S S' : FVec F S128x8320 .bf16}
    {C C' : FVec F S128x128 .f32} {X X' : Fin 4 → Blk F} {x : Blk F}
    (hT : T' = T) (hM : M' = M) (hG : G' = G) (hS : S' = S) (hC : C' = C) (hX : X' = X) (hx : x = X h)
    (e : W = stored h q (chunk T' S' (table M' G' C' X' h.val) x h)) :
    (outBlk k h).view.read (Elt F) ((outBlk k h).view.writes (Elt F) o
      [⟨Rect.whole S128x2048, ReadAs.same.apply ((oQuart h).view.read (Elt F) W)⟩]) = result T M G S C X h := by
  subst hT hM hG hS hC hX hx
  exact landed_stored k h o q W _ e

/-- The store to the carry leaves the model's carry. -/
theorem carry_left (f : carryM.view.ty.Contents (Elt F)) (p : FVec F S128x128 .f32)
    {M M' : FVec F S128x128 .f32} {G G' : FVec F S8192x128 .bf16} {S S' : FVec F S128x8320 .bf16}
    {C C' : FVec F S128x128 .f32} {X X' : Fin 4 → Blk F}
    (hM : M' = M) (hG : G' = G) (hS : S' = S) (hC : C' = C) (hX : X' = X) (e : p = carryOut M' G' S' C' X')
    (off : Fin 2 → ℕ) (h : off = fun _ => 0) (inb : ∀ a, off a + S128x128.size a ≤ S128x128.size a)
    (L : List (View.Piece (Elt F) S128x128 .f32)) :
    carryM.view.read (Elt F) (carryM.view.writes (Elt F) f (⟨Rect.unit (s := S128x128) off S128x128.size inb, p⟩ :: L))
      = carryOut M G S C X := by
  subst hM hG hS hC hX e
  exact read_store_all carryM.view off h inb _ _

/-- The four slots of the current side, each loaded as a whole, are the current row. -/
theorem cast_slots (i : grid0.Coords) (g0 g1 g2 g3 : xM.view.ty.Contents (Elt F)) (X : Fin 4 → Blk F)
    (e0 : (xSlot (slot i) 0).view.read (Elt F) g0 = X 0) (e1 : (xSlot (slot i) 1).view.read (Elt F) g1 = X 1)
    (e2 : (xSlot (slot i) 2).view.read (Elt F) g2 = X 2) (e3 : (xSlot (slot i) 3).view.read (Elt F) g3 = X 3) :
    (![shapeCast S128x2048 (xM.view.readAt (Elt F) (Rect.unit (s := S2x4x128x2048) (k0_off13 i) S1x1x128x2048.size (k0_off13_inb i)).toLoadRect g0) shapeCasts_S1x1x128x2048_S128x2048,
      shapeCast S128x2048 (xM.view.readAt (Elt F) (Rect.unit (s := S2x4x128x2048) (k0_off17 i) S1x1x128x2048.size (k0_off17_inb i)).toLoadRect g1) shapeCasts_S1x1x128x2048_S128x2048,
      shapeCast S128x2048 (xM.view.readAt (Elt F) (Rect.unit (s := S2x4x128x2048) (k0_off21 i) S1x1x128x2048.size (k0_off21_inb i)).toLoadRect g2) shapeCasts_S1x1x128x2048_S128x2048,
      shapeCast S128x2048 (xM.view.readAt (Elt F) (Rect.unit (s := S2x4x128x2048) (k0_off25 i) S1x1x128x2048.size (k0_off25_inb i)).toLoadRect g3) shapeCasts_S1x1x128x2048_S128x2048]
        : Fin 4 → Blk F) = X := by
  funext h
  fin_cases h
  · exact (cast_slot (slot i) 0 _ (k0_off13_eq i) _ _).trans e0
  · exact (cast_slot (slot i) 1 _ (k0_off17_eq i) _ _).trans e1
  · exact (cast_slot (slot i) 2 _ (k0_off21_eq i) _ _).trans e2
  · exact (cast_slot (slot i) 3 _ (k0_off25_eq i) _ _).trans e3

/-- The offsets of a whole load of a matrix. -/
theorem off_zero : (![0, 0] : Fin 2 → ℕ) = fun _ => 0 := by
  funext a; fin_cases a <;> rfl

end Cert.KernelIdeal.Scan
-- ==== Proof.StepFirst.lean ====
module

public import proofs.«01_k».proof.Proof.State

/-!
# The first step
-/

@[expose] public section

set_option maxRecDepth 65536

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem first_conds : ∀ i : grid0.Coords, (i 0).val = 0 →
    (Scalar.cmpi .ne (Scalar.extui (Scalar.cmpi .eq (BitVec.ofNat 32 (i 0).val) 0#32) : BitVec 32) 0#32 = 1#1)
    ∧ k0_cond2 i = 1#1 ∧ (¬ k0_cond3 i = 1#1) ∧ (¬ k0_cond4 i = 1#1) ∧ (¬ k0_cond5 i = 1#1) ∧ (¬ k0_cond6 i = 1#1) ∧ ¬ k0_cond7 i = 1#1 := by
  decide +kernel

/-- The first step: the first two rows start on their way in, the carry and the two matrices are written, the first row is
waited for and its results start on their way out. -/
theorem first_step (c : Dev nD) (i : grid0.Coords) (h0 : (i 0).val = 0)
    (arg2 : Memref sig .tc .vmem S128x128 .bf16) (harg2 : arg2.IsWhole) (arg3 : Memref sig .tc .vmem S128x128 .f32) (harg3 : arg3.IsWhole)
    (T : FVec F S128x128 .bf16) (M : FVec F S128x128 .f32) (A : ArgBuf (F := F) c) (W : Waits sig Unit) (K : PUnit → sProp 𝕄) :
    iprop(owns (c : Thread nD τ) arg2 fullShare T ∗ owns (c : Thread nD τ) arg3 fullShare M ∗ owes (c : Thread nD τ) 0 W
      ∗ AnyTables c ∗ FreeSlots c (slot i) ∗ Xrow c A (cur i) ∗ FreeSlots c (oslot i) ∗ Xrow c A (nxt i) ∗ FreeQuarts c ∗ Orow c (cur i)
      ∗ (iprop(owns (c : Thread nD τ) arg2 fullShare T ∗ owns (c : Thread nD τ) arg3 fullShare M ∗ (∃ W', owes (c : Thread nD τ) 0 W')
          ∗ Tables c (carryOut M (Gmat (F := F)) (Smat (F := F)) (carry0 (F := F)) (argBlk c A (cur i)))
          ∗ InFlight c A (nxt i) (oslot i) ∗ FreeSlots c (slot i) ∗ Xrow c A (cur i)
          ∗ OutFlight c (cur i) (result T M (Gmat (F := F)) (Smat (F := F)) (carry0 (F := F)) (argBlk c A (cur i)))) -∗ K ⟨⟩))
    ⊢ wp frame (wpE (defs₀ (F := F)) Variants.none (c : Thread nD τ) none) Set.univ
     (cc0__cumsum_kernel i inM (Memref.isWhole_whole _) arg2 harg2 arg3 harg3 outM (Memref.isWhole_whole _) carryM (Memref.isWhole_whole _)
       gM (Memref.isWhole_whole _) sM (Memref.isWhole_whole _) xM (Memref.isWhole_whole _) oM (Memref.isWhole_whole _) cc0_scratch5 cc0_scratch6) K := by
  obtain ⟨h1, h2, h3, h4, h5, h6, h7⟩ := first_conds i h0
  unfold owns
  have hn : (i 0).val < 3 := by omega
  have hcanonS0 := inSem_of (off := ![0, 0]) (inSemOff_first i h0 0) inb_S2x4_S1x1_0_0
  have hcanonX0 := xSlot_of (off := ![0, 0, 0, 0]) (slotOff_first i h0 0) inb_S2x4x128x2048_S1x1x128x2048_0_0_0_0 (fun _ => rfl)
  have hcanonB0 := inBlk_of (off := ![0, 0]) (blkOff_first i h0 0) inb_S128x32768_S128x2048_0_0 (fun _ => rfl)
  have hcanonS1 := inSem_of (off := ![0, 1]) (inSemOff_first i h0 1) inb_S2x4_S1x1_0_1
  have hcanonX1 := xSlot_of (off := ![0, 1, 0, 0]) (slotOff_first i h0 1) inb_S2x4x128x2048_S1x1x128x2048_0_1_0_0 (fun _ => rfl)
  have hcanonB1 := inBlk_of (off := ![0, 2048]) (blkOff_first i h0 1) inb_S128x32768_S128x2048_0_2048 (fun _ => rfl)
  have hcanonS2 := inSem_of (off := ![0, 2]) (inSemOff_first i h0 2) inb_S2x4_S1x1_0_2
  have hcanonX2 := xSlot_of (off := ![0, 2, 0, 0]) (slotOff_first i h0 2) inb_S2x4x128x2048_S1x1x128x2048_0_2_0_0 (fun _ => rfl)
  have hcanonB2 := inBlk_of (off := ![0, 4096]) (blkOff_first i h0 2) inb_S128x32768_S128x2048_0_4096 (fun _ => rfl)
  have hcanonS3 := inSem_of (off := ![0, 3]) (inSemOff_first i h0 3) inb_S2x4_S1x1_0_3
  have hcanonX3 := xSlot_of (off := ![0, 3, 0, 0]) (slotOff_first i h0 3) inb_S2x4x128x2048_S1x1x128x2048_0_3_0_0 (fun _ => rfl)
  have hcanonB3 := inBlk_of (off := ![0, 6144]) (blkOff_first i h0 3) inb_S128x32768_S128x2048_0_6144 (fun _ => rfl)
  iintro ⟨H2, ⟨%f3, %hM, H3⟩, HW, ⟨⟨%fc, Hc⟩, ⟨%fG, HG⟩, ⟨%fS, HS⟩⟩,
    ⟨⟨⟨%m0, HY0⟩, HI0⟩, ⟨⟨%m1, HY1⟩, HI1⟩, ⟨⟨%m2, HY2⟩, HI2⟩, ⟨⟨%m3, HY3⟩, HI3⟩⟩,
    ⟨HA0, HA1, HA2, HA3⟩,
    ⟨⟨⟨%n0, HX0⟩, HN0⟩, ⟨⟨%n1, HX1⟩, HN1⟩, ⟨⟨%n2, HX2⟩, HN2⟩, ⟨⟨%n3, HX3⟩, HN3⟩⟩,
    ⟨HB0, HB1, HB2, HB3⟩,
    ⟨⟨⟨%q0, HQ0⟩, HO0⟩, ⟨⟨%q1, HQ1⟩, HO1⟩, ⟨⟨%q2, HQ2⟩, HO2⟩, ⟨⟨%q3, HQ3⟩, HO3⟩⟩,
    ⟨⟨%o0, HR0⟩, ⟨%o1, HR1⟩, ⟨%o2, HR2⟩, ⟨%o3, HR3⟩⟩, HK⟩
  rw [cc0__cumsum_kernel_eq_skeleton]
  sl_exec
  ihave Hc := (reads_store c carryM _ off_zero inb_S128x128_S128x128_0_0 fc (carry0 (F := F)) [⟨Rect.unit ![0, 0] S128x128.size inb_S128x128_S128x128_0_0, k0_pay2 (F := F) (k0_pay1 (F := F))⟩] rfl) $$ Hc
  icases Hc with ⟨%fc', Hc, %hC⟩
  ihave HG := (reads_store c gM _ off_zero inb_S8192x128_S8192x128_0_0 fG (Gmat (F := F)) [⟨Rect.unit ![0, 0] S8192x128.size inb_S8192x128_S8192x128_0_0, k0_pay3 (F := F)⟩] rfl) $$ HG
  icases HG with ⟨%fG', HG, %hG⟩
  ihave HS := (reads_store c sM _ off_zero inb_S128x8320_S128x8320_0_0 fS (Smat (F := F)) [⟨Rect.unit ![0, 0] S128x8320.size inb_S128x8320_S128x8320_0_0,
      k0_pay7 (F := F) first_step.sl.v879 first_step.sl.v880 128#32 k0_pay4 k0_pay5 k0_pay6⟩] rfl) $$ HS
  icases HS with ⟨%fS', HS, %hS⟩
  ihave HI0 := (flies_landed c A (cur i) 0 (slot i) m0 (first_step.sl.dma0 c i A) rfl) $$ HI0
  icases HI0 with ⟨%g0, HI0, %e0⟩
  ihave HI1 := (flies_landed c A (cur i) 1 (slot i) m1 (first_step.sl.dma0_1 c i A) rfl) $$ HI1
  icases HI1 with ⟨%g1, HI1, %e1⟩
  ihave HI2 := (flies_landed c A (cur i) 2 (slot i) m2 (first_step.sl.dma0_2 c i A) rfl) $$ HI2
  icases HI2 with ⟨%g2, HI2, %e2⟩
  ihave HI3 := (flies_landed c A (cur i) 3 (slot i) m3 (first_step.sl.dma0_3 c i A) rfl) $$ HI3
  icases HI3 with ⟨%g3, HI3, %e3⟩
  ihave HN0 := (flies_landed c A (nxt i) 0 (oslot i) n0 (first_step.sl.dma6 c i A) rfl) $$ HN0
  icases HN0 with ⟨%l0, HN0, %b0⟩
  ihave HN1 := (flies_landed c A (nxt i) 1 (oslot i) n1 (first_step.sl.dma6_1 c i A) rfl) $$ HN1
  icases HN1 with ⟨%l1, HN1, %b1⟩
  ihave HN2 := (flies_landed c A (nxt i) 2 (oslot i) n2 (first_step.sl.dma6_2 c i A) rfl) $$ HN2
  icases HN2 with ⟨%l2, HN2, %b2⟩
  ihave HN3 := (flies_landed c A (nxt i) 3 (oslot i) n3 (first_step.sl.dma6_3 c i A) rfl) $$ HN3
  icases HN3 with ⟨%l3, HN3, %b3⟩
  icases H2 with ⟨%f2, %hT, H2⟩
  clear hcanonS0 hcanonX0 hcanonB0 hcanonS1 hcanonX1 hcanonB1 hcanonS2 hcanonX2 hcanonB2 hcanonS3 hcanonX3 hcanonB3
  sl_exec
  sl_step
  have hX := cast_slots i g0 g1 g2 g3 (argBlk c A (cur i)) e0 e1 e2 e3
  have hT' := (readAt_all arg2.view _ off_zero inb_S128x128_S128x128_0_0 f2).trans hT
  have hM' := (readAt_all arg3.view _ off_zero inb_S128x128_S128x128_0_0 f3).trans hM
  have hC' := (readAt_all carryM.view _ off_zero inb_S128x128_S128x128_0_0 fc').trans hC
  iapply HK
  isplitl [H2]
  · iexists f2; isplitr; ipureintro; exact hT; iexact H2
  isplitl [H3]
  · iexists f3; isplitr; ipureintro; exact hM; iexact H3
  isplitl [HW]
  · iexists _; iexact HW
  isplitl [Hc HG HS]
  · isplitl [Hc]
    · iexists _; isplitl [Hc]; iexact Hc; ipureintro
      exact carry_left fc' _ hM' hG hS hC' hX rfl _ off_zero _ []
    isplitl [HG]
    · iexists fG'; isplitl [HG]; iexact HG; ipureintro; exact hG
    · iexists fS'; isplitl [HS]; iexact HS; ipureintro; exact hS
  isplitl [HN0 HN1 HN2 HN3]
  · isplitl [HN0]
    · iexists _; isplitl [HN0]; iexact HN0; ipureintro; exact b0
    isplitl [HN1]
    · iexists _; isplitl [HN1]; iexact HN1; ipureintro; exact b1
    isplitl [HN2]
    · iexists _; isplitl [HN2]; iexact HN2; ipureintro; exact b2
    · iexists _; isplitl [HN3]; iexact HN3; ipureintro; exact b3
  isplitl [HI0_dst HI0 HI1_dst HI1 HI2_dst HI2 HI3_dst HI3]
  · isplitl [HI0_dst HI0]
    · isplitl [HI0_dst]; iexists g0; iexact HI0_dst; iexact HI0
    isplitl [HI1_dst HI1]
    · isplitl [HI1_dst]; iexists g1; iexact HI1_dst; iexact HI1
    isplitl [HI2_dst HI2]
    · isplitl [HI2_dst]; iexists g2; iexact HI2_dst; iexact HI2
    · isplitl [HI3_dst]; iexists g3; iexact HI3_dst; iexact HI3
  isplitl [HI0_src HI1_src HI2_src HI3_src]
  · isplitl [HI0_src]; iexact HI0_src
    isplitl [HI1_src]; iexact HI1_src
    isplitl [HI2_src]; iexact HI2_src
    iexact HI3_src
  isplitl [HO0]
  · iexists _; iexists _; isplitl [HO0]; iexact HO0; ipureintro
    exact result_left (cur i) 0 o0 q0 _ hT' hM' hG hS hC' hX e0 rfl
  isplitl [HO1]
  · iexists _; iexists _; isplitl [HO1]; iexact HO1; ipureintro
    exact result_left (cur i) 1 o1 q1 _ hT' hM' hG hS hC' hX e1 rfl
  isplitl [HO2]
  · iexists _; iexists _; isplitl [HO2]; iexact HO2; ipureintro
    exact result_left (cur i) 2 o2 q2 _ hT' hM' hG hS hC' hX e2 rfl
  · iexists _; iexists _; isplitl [HO3]; iexact HO3; ipureintro
    exact result_left (cur i) 3 o3 q3 _ hT' hM' hG hS hC' hX e3 rfl

end Cert.KernelIdeal.Scan
-- ==== Proof.StepMid.lean ====
module

public import proofs.«01_k».proof.Proof.State

/-!
# A step between the first and the last
-/

@[expose] public section

set_option maxRecDepth 65536

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem mid_conds : ∀ i : grid0.Coords, 0 < (i 0).val → (i 0).val < 3 →
    (¬ Scalar.cmpi .ne (Scalar.extui (Scalar.cmpi .eq (BitVec.ofNat 32 (i 0).val) 0#32) : BitVec 32) 0#32 = 1#1)
    ∧ k0_cond2 i = 1#1 ∧ k0_cond3 i = 1#1 ∧ k0_cond4 i = 1#1 ∧ k0_cond5 i = 1#1 ∧ k0_cond6 i = 1#1 ∧ ¬ k0_cond7 i = 1#1 := by
  decide +kernel

/-- A step between the first and the last: the row on its way in is waited for, its results start on their way out, the
previous results are waited for and the next row starts on its way in. -/
theorem mid_step (c : Dev nD) (i : grid0.Coords) (hv : 0 < (i 0).val) (hn : (i 0).val < 3)
    (arg2 : Memref sig .tc .vmem S128x128 .bf16) (harg2 : arg2.IsWhole) (arg3 : Memref sig .tc .vmem S128x128 .f32) (harg3 : arg3.IsWhole)
    (T : FVec F S128x128 .bf16) (M : FVec F S128x128 .f32) (A : ArgBuf (F := F) c) (C : FVec F S128x128 .f32) (y : Fin 4 → Blk F)
    (W : Waits sig Unit) (K : PUnit → sProp 𝕄) :
    iprop(owns (c : Thread nD τ) arg2 fullShare T ∗ owns (c : Thread nD τ) arg3 fullShare M ∗ owes (c : Thread nD τ) 0 W
      ∗ Tables c C ∗ InFlight c A (cur i) (slot i) ∗ FreeSlots c (oslot i) ∗ Xrow c A (nxt i) ∗ OutFlight c (prv i) y ∗ Orow c (cur i)
      ∗ (iprop(owns (c : Thread nD τ) arg2 fullShare T ∗ owns (c : Thread nD τ) arg3 fullShare M ∗ (∃ W', owes (c : Thread nD τ) 0 W')
          ∗ Tables c (carryOut M (Gmat (F := F)) (Smat (F := F)) C (argBlk c A (cur i)))
          ∗ InFlight c A (nxt i) (oslot i) ∗ FreeSlots c (slot i) ∗ Xrow c A (cur i)
          ∗ OutFlight c (cur i) (result T M (Gmat (F := F)) (Smat (F := F)) C (argBlk c A (cur i))) ∗ Drow c (prv i) y) -∗ K ⟨⟩))
    ⊢ wp frame (wpE (defs₀ (F := F)) Variants.none (c : Thread nD τ) none) Set.univ
     (cc0__cumsum_kernel i inM (Memref.isWhole_whole _) arg2 harg2 arg3 harg3 outM (Memref.isWhole_whole _) carryM (Memref.isWhole_whole _)
       gM (Memref.isWhole_whole _) sM (Memref.isWhole_whole _) xM (Memref.isWhole_whole _) oM (Memref.isWhole_whole _) cc0_scratch5 cc0_scratch6) K := by
  obtain ⟨h1, h2, h3, h4, h5, h6, h7⟩ := mid_conds i hv hn
  unfold owns
  iintro ⟨⟨%f2, %hT, H2⟩, ⟨%f3, %hM, H3⟩, HW, ⟨⟨%fc, Hc, %hC⟩, ⟨%fG, HG, %hG⟩, ⟨%fS, HS, %hS⟩⟩,
    ⟨⟨%g0, HI0, %e0⟩, ⟨%g1, HI1, %e1⟩, ⟨%g2, HI2, %e2⟩, ⟨%g3, HI3, %e3⟩⟩,
    ⟨⟨⟨%n0, HX0⟩, HN0⟩, ⟨⟨%n1, HX1⟩, HN1⟩, ⟨⟨%n2, HX2⟩, HN2⟩, ⟨⟨%n3, HX3⟩, HN3⟩⟩,
    ⟨HB0, HB1, HB2, HB3⟩,
    ⟨⟨%p0, %q0, HO0, %d0⟩, ⟨%p1, %q1, HO1, %d1⟩, ⟨%p2, %q2, HO2, %d2⟩, ⟨%p3, %q3, HO3, %d3⟩⟩,
    ⟨⟨%o0, HR0⟩, ⟨%o1, HR1⟩, ⟨%o2, HR2⟩, ⟨%o3, HR3⟩⟩, HK⟩
  rw [cc0__cumsum_kernel_eq_skeleton]
  sl_exec
  sl_step
  have hX := cast_slots i g0 g1 g2 g3 (argBlk c A (cur i)) e0 e1 e2 e3
  have hT' := (readAt_all arg2.view _ off_zero inb_S128x128_S128x128_0_0 f2).trans hT
  have hM' := (readAt_all arg3.view _ off_zero inb_S128x128_S128x128_0_0 f3).trans hM
  have hC' := (readAt_all carryM.view _ off_zero inb_S128x128_S128x128_0_0 fc).trans hC
  iapply HK
  isplitl [H2]
  · iexists f2; isplitr; ipureintro; exact hT; iexact H2
  isplitl [H3]
  · iexists f3; isplitr; ipureintro; exact hM; iexact H3
  isplitl [HW]
  · iexists _; iexact HW
  isplitl [Hc HG HS]
  · isplitl [Hc]
    · iexists _; isplitl [Hc]; iexact Hc; ipureintro
      exact carry_left fc _ hM' hG hS hC' hX rfl _ off_zero _ []
    isplitl [HG]
    · iexists fG; isplitl [HG]; iexact HG; ipureintro; exact hG
    · iexists fS; isplitl [HS]; iexact HS; ipureintro; exact hS
  isplitl [HN0 HN1 HN2 HN3]
  · isplitl [HN0]
    · iexists _; isplitl [HN0]; iexact HN0; ipureintro; exact landed _ _ _
    isplitl [HN1]
    · iexists _; isplitl [HN1]; iexact HN1; ipureintro; exact landed _ _ _
    isplitl [HN2]
    · iexists _; isplitl [HN2]; iexact HN2; ipureintro; exact landed _ _ _
    · iexists _; isplitl [HN3]; iexact HN3; ipureintro; exact landed _ _ _
  isplitl [HI0_dst HI0 HI1_dst HI1 HI2_dst HI2 HI3_dst HI3]
  · isplitl [HI0_dst HI0]
    · isplitl [HI0_dst]; iexists g0; iexact HI0_dst; iexact HI0
    isplitl [HI1_dst HI1]
    · isplitl [HI1_dst]; iexists g1; iexact HI1_dst; iexact HI1
    isplitl [HI2_dst HI2]
    · isplitl [HI2_dst]; iexists g2; iexact HI2_dst; iexact HI2
    · isplitl [HI3_dst]; iexists g3; iexact HI3_dst; iexact HI3
  isplitl [HI0_src HI1_src HI2_src HI3_src]
  · isplitl [HI0_src]; iexact HI0_src
    isplitl [HI1_src]; iexact HI1_src
    isplitl [HI2_src]; iexact HI2_src
    iexact HI3_src
  isplitl [HO0 HO1 HO2 HO3]
  · isplitl [HO0]
    · iexists _; iexists _; isplitl [HO0]; iexact HO0; ipureintro
      exact result_left (cur i) 0 o0 q0 _ hT' hM' hG hS hC' hX e0 rfl
    isplitl [HO1]
    · iexists _; iexists _; isplitl [HO1]; iexact HO1; ipureintro
      exact result_left (cur i) 1 o1 q1 _ hT' hM' hG hS hC' hX e1 rfl
    isplitl [HO2]
    · iexists _; iexists _; isplitl [HO2]; iexact HO2; ipureintro
      exact result_left (cur i) 2 o2 q2 _ hT' hM' hG hS hC' hX e2 rfl
    · iexists _; iexists _; isplitl [HO3]; iexact HO3; ipureintro
      exact result_left (cur i) 3 o3 q3 _ hT' hM' hG hS hC' hX e3 rfl
  isplitl [HO0_dst]
  · iexists p0; isplitl [HO0_dst]; iexact HO0_dst; ipureintro; exact d0
  isplitl [HO1_dst]
  · iexists p1; isplitl [HO1_dst]; iexact HO1_dst; ipureintro; exact d1
  isplitl [HO2_dst]
  · iexists p2; isplitl [HO2_dst]; iexact HO2_dst; ipureintro; exact d2
  · iexists p3; isplitl [HO3_dst]; iexact HO3_dst; ipureintro; exact d3

end Cert.KernelIdeal.Scan
-- ==== Proof.StepLast.lean ====
module

public import proofs.«01_k».proof.Proof.State

/-!
# The last step
-/

@[expose] public section

set_option maxRecDepth 65536

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem last_conds : ∀ i : grid0.Coords, (i 0).val = 3 →
    (¬ Scalar.cmpi .ne (Scalar.extui (Scalar.cmpi .eq (BitVec.ofNat 32 (i 0).val) 0#32) : BitVec 32) 0#32 = 1#1)
    ∧ (¬ k0_cond2 i = 1#1) ∧ k0_cond3 i = 1#1 ∧ k0_cond4 i = 1#1 ∧ k0_cond5 i = 1#1 ∧ k0_cond6 i = 1#1 ∧ k0_cond7 i = 1#1 := by
  decide +kernel

/-- The last step: the row on its way in is waited for, its results are sent out, and the copies out of this step and of
the one before are waited for, so that nothing stays in flight. -/
theorem last_step (c : Dev nD) (i : grid0.Coords) (h3 : (i 0).val = 3)
    (arg2 : Memref sig .tc .vmem S128x128 .bf16) (harg2 : arg2.IsWhole) (arg3 : Memref sig .tc .vmem S128x128 .f32) (harg3 : arg3.IsWhole)
    (T : FVec F S128x128 .bf16) (M : FVec F S128x128 .f32) (A : ArgBuf (F := F) c) (C : FVec F S128x128 .f32) (y : Fin 4 → Blk F)
    (W : Waits sig Unit) (K : PUnit → sProp 𝕄) :
    iprop(owns (c : Thread nD τ) arg2 fullShare T ∗ owns (c : Thread nD τ) arg3 fullShare M ∗ owes (c : Thread nD τ) 0 W
      ∗ Tables c C ∗ InFlight c A (cur i) (slot i) ∗ OutFlight c (prv i) y ∗ Orow c (cur i)
      ∗ (iprop(owns (c : Thread nD τ) arg2 fullShare T ∗ owns (c : Thread nD τ) arg3 fullShare M ∗ (∃ W', owes (c : Thread nD τ) 0 W')
          ∗ Tables c (carryOut M (Gmat (F := F)) (Smat (F := F)) C (argBlk c A (cur i)))
          ∗ FreeSlots c (slot i) ∗ Xrow c A (cur i) ∗ FreeQuarts c
          ∗ Drow c (cur i) (result T M (Gmat (F := F)) (Smat (F := F)) C (argBlk c A (cur i))) ∗ Drow c (prv i) y) -∗ K ⟨⟩))
    ⊢ wp frame (wpE (defs₀ (F := F)) Variants.none (c : Thread nD τ) none) Set.univ
     (cc0__cumsum_kernel i inM (Memref.isWhole_whole _) arg2 harg2 arg3 harg3 outM (Memref.isWhole_whole _) carryM (Memref.isWhole_whole _)
       gM (Memref.isWhole_whole _) sM (Memref.isWhole_whole _) xM (Memref.isWhole_whole _) oM (Memref.isWhole_whole _) cc0_scratch5 cc0_scratch6) K := by
  obtain ⟨h1, h2, h3', h4, h5, h6, h7⟩ := last_conds i h3
  have hv : 0 < (i 0).val := by omega
  unfold owns
  iintro ⟨⟨%f2, %hT, H2⟩, ⟨%f3, %hM, H3⟩, HW, ⟨⟨%fc, Hc, %hC⟩, ⟨%fG, HG, %hG⟩, ⟨%fS, HS, %hS⟩⟩,
    ⟨⟨%g0, HI0, %e0⟩, ⟨%g1, HI1, %e1⟩, ⟨%g2, HI2, %e2⟩, ⟨%g3, HI3, %e3⟩⟩,
    ⟨⟨%p0, %q0, HO0, %d0⟩, ⟨%p1, %q1, HO1, %d1⟩, ⟨%p2, %q2, HO2, %d2⟩, ⟨%p3, %q3, HO3, %d3⟩⟩,
    ⟨⟨%o0, HR0⟩, ⟨%o1, HR1⟩, ⟨%o2, HR2⟩, ⟨%o3, HR3⟩⟩, HK⟩
  rw [cc0__cumsum_kernel_eq_skeleton]
  sl_exec
  sl_step
  have hX := cast_slots i g0 g1 g2 g3 (argBlk c A (cur i)) e0 e1 e2 e3
  have hT' := (readAt_all arg2.view _ off_zero inb_S128x128_S128x128_0_0 f2).trans hT
  have hM' := (readAt_all arg3.view _ off_zero inb_S128x128_S128x128_0_0 f3).trans hM
  have hC' := (readAt_all carryM.view _ off_zero inb_S128x128_S128x128_0_0 fc).trans hC
  iapply HK
  isplitl [H2]
  · iexists f2; isplitr; ipureintro; exact hT; iexact H2
  isplitl [H3]
  · iexists f3; isplitr; ipureintro; exact hM; iexact H3
  isplitl [HW]
  · iexists _; iexact HW
  isplitl [Hc HG HS]
  · isplitl [Hc]
    · iexists _; isplitl [Hc]; iexact Hc; ipureintro
      exact carry_left fc _ hM' hG hS hC' hX rfl _ off_zero _ []
    isplitl [HG]
    · iexists fG; isplitl [HG]; iexact HG; ipureintro; exact hG
    · iexists fS; isplitl [HS]; iexact HS; ipureintro; exact hS
  isplitl [HI0_dst HI0 HI1_dst HI1 HI2_dst HI2 HI3_dst HI3]
  · isplitl [HI0_dst HI0]
    · isplitl [HI0_dst]; iexists g0; iexact HI0_dst; iexact HI0
    isplitl [HI1_dst HI1]
    · isplitl [HI1_dst]; iexists g1; iexact HI1_dst; iexact HI1
    isplitl [HI2_dst HI2]
    · isplitl [HI2_dst]; iexists g2; iexact HI2_dst; iexact HI2
    · isplitl [HI3_dst]; iexists g3; iexact HI3_dst; iexact HI3
  isplitl [HI0_src HI1_src HI2_src HI3_src]
  · isplitl [HI0_src]; iexact HI0_src
    isplitl [HI1_src]; iexact HI1_src
    isplitl [HI2_src]; iexact HI2_src
    iexact HI3_src
  isplitl [HO0_src HO0 HO1_src HO1 HO2_src HO2 HO3_src HO3]
  · isplitl [HO0_src HO0]
    · isplitl [HO0_src]; iexists _; iexact HO0_src; iexact HO0
    isplitl [HO1_src HO1]
    · isplitl [HO1_src]; iexists _; iexact HO1_src; iexact HO1
    isplitl [HO2_src HO2]
    · isplitl [HO2_src]; iexists _; iexact HO2_src; iexact HO2
    · isplitl [HO3_src]; iexists _; iexact HO3_src; iexact HO3
  isplitl [HR0 HR1 HR2 HR3]
  · isplitl [HR0]
    · iexists _; isplitl [HR0]; iexact HR0; ipureintro
      exact result_left (cur i) 0 o0 q0 _ hT' hM' hG hS hC' hX e0 rfl
    isplitl [HR1]
    · iexists _; isplitl [HR1]; iexact HR1; ipureintro
      exact result_left (cur i) 1 o1 q1 _ hT' hM' hG hS hC' hX e1 rfl
    isplitl [HR2]
    · iexists _; isplitl [HR2]; iexact HR2; ipureintro
      exact result_left (cur i) 2 o2 q2 _ hT' hM' hG hS hC' hX e2 rfl
    · iexists _; isplitl [HR3]; iexact HR3; ipureintro
      exact result_left (cur i) 3 o3 q3 _ hT' hM' hG hS hC' hX e3 rfl
  isplitl [HO0_dst]
  · iexists p0; isplitl [HO0_dst]; iexact HO0_dst; ipureintro; exact d0
  isplitl [HO1_dst]
  · iexists p1; isplitl [HO1_dst]; iexact HO1_dst; ipureintro; exact d1
  isplitl [HO2_dst]
  · iexists p2; isplitl [HO2_dst]; iexact HO2_dst; ipureintro; exact d2
  · iexists p3; isplitl [HO3_dst]; iexact HO3_dst; ipureintro; exact d3

end Cert.KernelIdeal.Scan
-- ==== Proof.Pieces.lean ====
module

public import proofs.«01_k».proof.Proof.State

/-!
# Whole buffers and their pieces

The launch gives the kernel each buffer whole.  The argument and the result fall into sixteen blocks, the input buffer into
eight slots, the output buffer into four quarters.  A family of pieces is described by a key: the function that
says in which piece an element lies.
-/

@[expose] public section

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Families given by a key -/

/-- Pieces given by a key do not meet. -/
theorem pieces_disjoint {X B : Type} {I : B → Finset X} (key : X → B) (h : ∀ b i, i ∈ I b ↔ key i = b) :
    ∀ b b', b ≠ b' → Disjoint (I b) (I b') :=
  fun b b' hb => Finset.disjoint_left.mpr fun i hi hi' => hb (((h b i).mp hi).symm.trans ((h b' i).mp hi'))

/-- Pieces given by a key are everything. -/
theorem pieces_cover {X B : Type} [Fintype X] [DecidableEq X] [Fintype B] {I : B → Finset X} (key : X → B)
    (h : ∀ b i, i ∈ I b ↔ key i = b) : Finset.univ.biUnion I = Finset.univ := by
  ext i
  simp [h]

/-- Four pieces, one by one. -/
theorem bigSep_four {M : Type} [URA M] (P : Fin 4 → sProp M) : bigSep Finset.univ P = iprop(P 0 ∗ P 1 ∗ P 2 ∗ P 3) :=
  bigSep_univ_eq_bigSepL [0, 1, 2, 3] (by decide) (by decide) P

/-- Two pieces, one by one. -/
theorem bigSep_two {M : Type} [URA M] (P : Fin 2 → sProp M) : bigSep Finset.univ P = iprop(P 0 ∗ P 1) :=
  bigSep_univ_eq_bigSepL [0, 1] (by decide) (by decide) P

/-- Sixteen pieces, four by four. -/
theorem bigSep_sixteen (P : Fin 4 → Fin 4 → sProp 𝕄) :
    bigSep Finset.univ (fun b : Fin 4 × Fin 4 => P b.1 b.2) = four fun k => four fun h => P k h := by
  rw [bigSep_univ_prod, bigSep_four]
  dsimp only
  rw [bigSep_four (P 0), bigSep_four (P 1), bigSep_four (P 2), bigSep_four (P 3)]

/-- Eight pieces, four by two. -/
theorem bigSep_eight (P : Fin 2 → Fin 4 → sProp 𝕄) :
    bigSep Finset.univ (fun b : Fin 2 × Fin 4 => P b.1 b.2) = iprop((four fun h => P 0 h) ∗ (four fun h => P 1 h)) := by
  rw [bigSep_univ_prod, bigSep_two]
  dsimp only
  rw [bigSep_four (P 0), bigSep_four (P 1)]

/-- Whatever the elements hold, they hold something. -/
theorem some_contents {ℓ : Loc nD τ sig} {I : Finset (Idx ℓ)} (f : Buf (Elt F) ℓ) :
    (ℓ ↦[I]{fullShare} f : sProp 𝕄) ⊢ iprop(∃ g : Buf (Elt F) ℓ, ℓ ↦[I]{fullShare} g) := by
  iintro H
  iexists f
  iexact H

/-- A buffer held whole falls into any pieces that do not meet and are everything. -/
theorem split_some {ℓ : Loc nD τ sig} {B : Type} [Fintype B] [DecidableEq B] (I : B → Finset (Idx ℓ))
    (hd : ∀ b b', b ≠ b' → Disjoint (I b) (I b')) (hc : Finset.univ.biUnion I = Finset.univ) (f : Buf (Elt F) ℓ) :
    (ℓ ↦{fullShare} f : sProp 𝕄) ⊢ bigSep Finset.univ fun b => iprop(∃ g : Buf (Elt F) ℓ, ℓ ↦[I b]{fullShare} g) := by
  rw [Ring.pointsTo_blocks I hd hc f]
  exact bigSep_mono fun b _ => some_contents f

/-! ## The keys -/

/-- The quarter of the output buffer an element lies in. -/
def quartKey (i : S128x8192.Idx) : Fin 4 := ⟨(i 1).val / 2048, by have : (i 1).val < 8192 := (i 1).isLt; omega⟩

theorem mem_quart (h : Fin 4) (i : S128x8192.Idx) : i ∈ (oQuart h).view.set ↔ quartKey i = h := by
  have h0 : (i 0).val < 128 := (i 0).isLt
  have h1 : (i 1).val < 8192 := (i 1).isLt
  have hh := h.isLt
  show i ∈ ((View.whole cc0_scratch4).slice (Rect.unit (s := S128x8192) (quartOff h) S128x2048.size (quartOff_inb h))).set ↔ _
  rw [View.set_slice_whole, Rect.mem_set_unit, Fin.ext_iff]
  show (∀ a : Fin 2, quartOff h a ≤ (i a).val ∧ (i a).val < quartOff h a + S128x2048.size a) ↔ _
  rw [Fin.forall_fin_two]
  show ((0 ≤ (i 0).val ∧ (i 0).val < 0 + 128) ∧ (2048 * h.val ≤ (i 1).val ∧ (i 1).val < 2048 * h.val + 2048))
    ↔ (i 1).val / 2048 = h.val
  omega

/-- The block of the argument, or of the result, an element lies in. -/
def blkKey (i : S128x32768.Idx) : Fin 4 × Fin 4 :=
  (⟨(i 1).val / 8192, by have : (i 1).val < 32768 := (i 1).isLt; omega⟩,
    ⟨(i 1).val % 8192 / 2048, by omega⟩)

theorem mem_blk (k h : Fin 4) (i : S128x32768.Idx) :
    i ∈ (Rect.unit (s := S128x32768) (blkOff k h) S128x2048.size (blkOff_inb k h)).set ↔ blkKey i = (k, h) := by
  have h0 : (i 0).val < 128 := (i 0).isLt
  have h1 : (i 1).val < 32768 := (i 1).isLt
  have hk := k.isLt
  have hh := h.isLt
  rw [Rect.mem_set_unit, Fin.forall_fin_two, Prod.ext_iff, Fin.ext_iff, Fin.ext_iff]
  show ((0 ≤ (i 0).val ∧ (i 0).val < 0 + 128)
      ∧ (8192 * k.val + 2048 * h.val ≤ (i 1).val ∧ (i 1).val < 8192 * k.val + 2048 * h.val + 2048))
    ↔ (i 1).val / 8192 = k.val ∧ (i 1).val % 8192 / 2048 = h.val
  omega

theorem mem_inBlk (b : Fin 4 × Fin 4) (i : S128x32768.Idx) : i ∈ (inBlk b.1 b.2).view.set ↔ blkKey i = b := by
  show i ∈ ((View.whole main_arg0).slice (Rect.unit (s := S128x32768) (blkOff b.1 b.2) S128x2048.size (blkOff_inb b.1 b.2))).set ↔ _
  rw [View.set_slice_whole]
  exact mem_blk b.1 b.2 i

theorem mem_outBlk (b : Fin 4 × Fin 4) (i : S128x32768.Idx) : i ∈ (outBlk b.1 b.2).view.set ↔ blkKey i = b := by
  show i ∈ ((View.whole main_v0).slice (Rect.unit (s := S128x32768) (blkOff b.1 b.2) S128x2048.size (blkOff_inb b.1 b.2))).set ↔ _
  rw [View.set_slice_whole]
  exact mem_blk b.1 b.2 i

/-- The slot of the input buffer an element lies in. -/
def slotKey (i : S2x4x128x2048.Idx) : Fin 2 × Fin 4 := (i 0, i 1)

theorem mem_slot (b : Fin 2 × Fin 4) (i : S2x4x128x2048.Idx) : i ∈ (xSlot b.1 b.2).view.set ↔ slotKey i = b := by
  have h2 : (i 2).val < 128 := (i 2).isLt
  have h3 : (i 3).val < 2048 := (i 3).isLt
  unfold xSlot
  rw [Memref.set_view_squeeze]
  show i ∈ ((View.whole cc0_scratch3).slice
    (Rect.unit (s := S2x4x128x2048) (slotOff b.1 b.2) S1x1x128x2048.size (slotOff_inb b.1 b.2))).set ↔ _
  rw [View.set_slice_whole, Rect.mem_set_unit, Prod.ext_iff, Fin.ext_iff, Fin.ext_iff]
  show (∀ a : Fin 4, slotOff b.1 b.2 a ≤ (i a).val ∧ (i a).val < slotOff b.1 b.2 a + S1x1x128x2048.size a)
    ↔ (i 0).val = b.1.val ∧ (i 1).val = b.2.val
  rw [Fin.forall_fin_succ, Fin.forall_fin_succ, Fin.forall_fin_two]
  show ((b.1.val ≤ (i 0).val ∧ (i 0).val < b.1.val + 1) ∧ (b.2.val ≤ (i 1).val ∧ (i 1).val < b.2.val + 1)
    ∧ (0 ≤ (i 2).val ∧ (i 2).val < 0 + 128) ∧ (0 ≤ (i 3).val ∧ (i 3).val < 0 + 2048)) ↔ _
  omega

/-! ## Splitting and joining -/

section
variable (c : Dev nD)

/-- The argument whole is its four rows. -/
theorem arg_rows (A : ArgBuf (F := F) c) :
    (((c : Thread nD τ).loc main_arg0) ↦{fullShare} A : sProp 𝕄) = four fun k => Xrow c A k :=
  (Ring.pointsTo_blocks (ℓ := (c : Thread nD τ).loc main_arg0) (fun b : Fin 4 × Fin 4 => (inBlk b.1 b.2).view.set)
    (pieces_disjoint blkKey mem_inBlk) (pieces_cover blkKey mem_inBlk) A).trans
    (bigSep_sixteen fun k h => at_ c (inBlk k h) A)

/-- The result whole is its sixteen blocks. -/
theorem out_pieces (f : Buf (Elt F) ((c : Thread nD τ).loc main_v0)) :
    (((c : Thread nD τ).loc main_v0) ↦{fullShare} f : sProp 𝕄)
      = bigSep Finset.univ fun b : Fin 4 × Fin 4 => at_ c (outBlk b.1 b.2) f :=
  Ring.pointsTo_blocks (ℓ := (c : Thread nD τ).loc main_v0) (fun b : Fin 4 × Fin 4 => (outBlk b.1 b.2).view.set)
    (pieces_disjoint blkKey mem_outBlk) (pieces_cover blkKey mem_outBlk) f

/-- The result whole, at anything, falls into its four rows. -/
theorem out_rows (f : Buf (Elt F) ((c : Thread nD τ).loc main_v0)) :
    (((c : Thread nD τ).loc main_v0) ↦{fullShare} f : sProp 𝕄) ⊢ four fun k => Orow c k :=
  (split_some (ℓ := (c : Thread nD τ).loc main_v0) (fun b : Fin 4 × Fin 4 => (outBlk b.1 b.2).view.set)
    (pieces_disjoint blkKey mem_outBlk) (pieces_cover blkKey mem_outBlk) f).trans
    (bigSep_sixteen fun k h => iprop(∃ g : Buf (Elt F) ((c : Thread nD τ).loc main_v0),
      ((c : Thread nD τ).loc main_v0) ↦[(outBlk k h).view.set]{fullShare} g)).le

/-- The array whose block `(k, h)` is `y k h`. -/
def glue (y : Fin 4 → Fin 4 → Blk F) : FVec F S128x32768 .f32 :=
  fun i => y (blkKey i).1 (blkKey i).2 (ix2 (i 0) ⟨(i 1).val % 2048, Nat.mod_lt _ (by norm_num)⟩)

theorem read_glue (y : Fin 4 → Fin 4 → Blk F) (k h : Fin 4) :
    (outBlk k h).view.read (Elt F) (glue y) = y k h := by
  funext x
  show glue y ((Rect.unit (s := S128x32768) (blkOff k h) S128x2048.size (blkOff_inb k h)).emb x) = y k h x
  have hx : (x 1).val < 2048 := (x 1).isLt
  have hk := k.isLt
  have hh := h.isLt
  set i := (Rect.unit (s := S128x32768) (blkOff k h) S128x2048.size (blkOff_inb k h)).emb x with hi
  have e0 : (i 0).val = (x 0).val := by simp [hi, Rect.emb_apply, blkOff]
  have e1 : (i 1).val = 8192 * k.val + 2048 * h.val + (x 1).val := by simp [hi, Rect.emb_apply, blkOff]
  have hb : blkKey i = (k, h) := by
    unfold blkKey
    rw [Prod.ext_iff, Fin.ext_iff, Fin.ext_iff]
    constructor
    · show (i 1).val / 8192 = k.val; omega
    · show (i 1).val % 8192 / 2048 = h.val; omega
  unfold glue
  rw [hb]
  congr 1
  funext a
  apply Fin.ext
  fin_cases a
  · exact e0
  · show (i 1).val % 2048 = (x 1).val; omega

/-- A block of the result that reads `y k h` is a block of the glued array. -/
theorem block_glued (y : Fin 4 → Fin 4 → Blk F) (k h : Fin 4) :
    (iprop(∃ f, at_ c (outBlk k h) f ∗ ⌜(outBlk k h).view.read (Elt F) f = y k h⌝) : sProp 𝕄)
      ⊢ at_ c (outBlk k h) (glue y : Buf (Elt F) ((c : Thread nD τ).loc main_v0)) := by
  iintro ⟨%f, H, %hf⟩
  have e : ∀ i ∈ (outBlk k h).view.set, f i = (glue y : Buf (Elt F) ((c : Thread nD τ).loc main_v0)) i := by
    intro i hi
    obtain ⟨x, -, rfl⟩ := Finset.mem_map.mp hi
    exact (congrFun hf x).trans (congrFun (read_glue y k h) x).symm
  iapply (show (at_ c (outBlk k h) f : sProp 𝕄) ⊢ at_ c (outBlk k h) (glue y : Buf (Elt F) ((c : Thread nD τ).loc main_v0))
    from (pointsTo_congr e).le)
  iexact H

/-- The four written rows are the result whole. -/
theorem out_glued (y : Fin 4 → Fin 4 → Blk F) :
    (four fun k => Drow c k (y k) : sProp 𝕄)
      ⊢ ((c : Thread nD τ).loc main_v0) ↦{fullShare} (glue y : Buf (Elt F) ((c : Thread nD τ).loc main_v0)) :=
  (bigSep_sixteen fun k h => iprop(∃ f, at_ c (outBlk k h) f ∗ ⌜(outBlk k h).view.read (Elt F) f = y k h⌝)).ge.trans
    ((bigSep_mono (s := Finset.univ) fun b _ => block_glued c y b.1 b.2).trans (out_pieces c (glue y)).ge)

/-- The output buffer whole falls into its four quarters. -/
theorem quarts_split (f : Buf (Elt F) ((c : Thread nD τ).loc cc0_scratch4)) :
    (((c : Thread nD τ).loc cc0_scratch4) ↦{fullShare} f : sProp 𝕄) ⊢ four fun h => iprop(∃ f, at_ c (oQuart h) f) :=
  (split_some (ℓ := (c : Thread nD τ).loc cc0_scratch4) (fun h : Fin 4 => (oQuart h).view.set) (pieces_disjoint quartKey mem_quart) (pieces_cover quartKey mem_quart) f).trans
    (bigSep_four fun h => iprop(∃ g, at_ c (oQuart h) g)).le

/-- And the quarters join to it; `f₀` is any contents. -/
theorem quarts_join (f₀ : Buf (Elt F) ((c : Thread nD τ).loc cc0_scratch4)) :
    (four fun h => iprop(∃ f, at_ c (oQuart h) f) : sProp 𝕄)
      ⊢ iprop(∃ f : Buf (Elt F) ((c : Thread nD τ).loc cc0_scratch4), ((c : Thread nD τ).loc cc0_scratch4) ↦{fullShare} f) :=
  (bigSep_four fun h => iprop(∃ g, at_ c (oQuart h) g)).ge.trans
    (Ring.pointsTo_blocks_join_exists (ℓ := (c : Thread nD τ).loc cc0_scratch4) (fun h : Fin 4 => (oQuart h).view.set)
      (pieces_disjoint quartKey mem_quart) (pieces_cover quartKey mem_quart) f₀)

/-- The input buffer whole falls into its eight slots. -/
theorem slots_split (f : Buf (Elt F) ((c : Thread nD τ).loc cc0_scratch3)) :
    (((c : Thread nD τ).loc cc0_scratch3) ↦{fullShare} f : sProp 𝕄)
      ⊢ iprop((four fun h => iprop(∃ f, at_ c (xSlot 0 h) f)) ∗ (four fun h => iprop(∃ f, at_ c (xSlot 1 h) f))) :=
  (split_some (ℓ := (c : Thread nD τ).loc cc0_scratch3) (fun b : Fin 2 × Fin 4 => (xSlot b.1 b.2).view.set) (pieces_disjoint slotKey mem_slot) (pieces_cover slotKey mem_slot) f).trans
    (bigSep_eight fun p h => iprop(∃ g : Buf (Elt F) ((c : Thread nD τ).loc cc0_scratch3),
      ((c : Thread nD τ).loc cc0_scratch3) ↦[(xSlot p h).view.set]{fullShare} g)).le

/-- And the slots join to it; `f₀` is any contents. -/
theorem slots_join (f₀ : Buf (Elt F) ((c : Thread nD τ).loc cc0_scratch3)) :
    (iprop((four fun h => iprop(∃ f, at_ c (xSlot 0 h) f)) ∗ (four fun h => iprop(∃ f, at_ c (xSlot 1 h) f))) : sProp 𝕄)
      ⊢ iprop(∃ f : Buf (Elt F) ((c : Thread nD τ).loc cc0_scratch3), ((c : Thread nD τ).loc cc0_scratch3) ↦{fullShare} f) :=
  (bigSep_eight fun p h => iprop(∃ g, at_ c (xSlot p h) g)).ge.trans
    (Ring.pointsTo_blocks_join_exists (ℓ := (c : Thread nD τ).loc cc0_scratch3)
      (fun b : Fin 2 × Fin 4 => (xSlot b.1 b.2).view.set)
      (pieces_disjoint slotKey mem_slot) (pieces_cover slotKey mem_slot) f₀)

end

end Cert.KernelIdeal.Scan
-- ==== Proof.Launch.lean ====
module

public import proofs.«01_k».proof.Proof.StepFirst
public import proofs.«01_k».proof.Proof.StepMid
public import proofs.«01_k».proof.Proof.StepLast
public import proofs.«01_k».proof.Proof.Pieces
public import proofs.«01_k».proof.Proof.Gen.KernelIdeal.Frame

/-!
# The launch

The four steps, put one after the other.  Before step `n` the buffers are in `stage n`; each step's theorem leads from one
stage to the next.  After the last step the result holds, block by block, what the model says.
-/

@[expose] public section

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The values -/

section
variable (c : Dev nD)

/-- The triangular matrix, as the region finds it. -/
def triT : FVec F S128x128 .bf16 := V m c main_call0_cst

/-- The mask, as the region finds it. -/
def maskM : FVec F S128x128 .f32 := V m c main_call0_cst_0

/-- The argument, as the region finds it. -/
abbrev argA : ArgBuf (F := F) c := V m c main_arg0

/-- The carry before step `n`. -/
def carryAt : ℕ → FVec F S128x128 .f32
  | 0 => carry0
  | n + 1 => carryOut (maskM m c) Gmat Smat (carryAt n) (argBlk c (argA m c) (Fin.ofNat 4 n))

/-- What step `k` writes into block `h` of its row. -/
def rowAt (k h : Fin 4) : Blk F :=
  result (triT m c) (maskM m c) Gmat Smat (carryAt m c k.val) (argBlk c (argA m c) k) h

/-- The whole result. -/
def outAt : FVec F S128x32768 .f32 := glue (rowAt m c)

/-! ## The stages -/

/-- Before the first step: the argument and the result at rest, everything of the kernel's own at anything. -/
def stage0 : sProp 𝕄 :=
  iprop(AnyTables c ∗ FreeSlots c 0 ∗ FreeSlots c 1 ∗ FreeQuarts c
    ∗ (Xrow c (argA m c) 0 ∗ Xrow c (argA m c) 1 ∗ Xrow c (argA m c) 2 ∗ Xrow c (argA m c) 3)
    ∗ (Orow c 0 ∗ Orow c 1 ∗ Orow c 2 ∗ Orow c 3))

/-- After the first step. -/
def stage1 : sProp 𝕄 :=
  iprop(Tables c (carryAt m c 1) ∗ InFlight c (argA m c) 1 1 ∗ FreeSlots c 0 ∗ OutFlight c 0 (rowAt m c 0)
    ∗ (Xrow c (argA m c) 0 ∗ Xrow c (argA m c) 2 ∗ Xrow c (argA m c) 3)
    ∗ (Orow c 1 ∗ Orow c 2 ∗ Orow c 3))

/-- After the second step. -/
def stage2 : sProp 𝕄 :=
  iprop(Tables c (carryAt m c 2) ∗ InFlight c (argA m c) 2 0 ∗ FreeSlots c 1 ∗ OutFlight c 1 (rowAt m c 1)
    ∗ (Xrow c (argA m c) 0 ∗ Xrow c (argA m c) 1 ∗ Xrow c (argA m c) 3)
    ∗ (Drow c 0 (rowAt m c 0) ∗ Orow c 2 ∗ Orow c 3))

/-- After the third step. -/
def stage3 : sProp 𝕄 :=
  iprop(Tables c (carryAt m c 3) ∗ InFlight c (argA m c) 3 1 ∗ FreeSlots c 0 ∗ OutFlight c 2 (rowAt m c 2)
    ∗ (Xrow c (argA m c) 0 ∗ Xrow c (argA m c) 1 ∗ Xrow c (argA m c) 2)
    ∗ (Drow c 0 (rowAt m c 0) ∗ Drow c 1 (rowAt m c 1) ∗ Orow c 3))

/-- After the last step: the result is written. -/
def stage4 : sProp 𝕄 :=
  iprop(Tables c (carryAt m c 4) ∗ FreeSlots c 0 ∗ FreeSlots c 1 ∗ FreeQuarts c
    ∗ (Xrow c (argA m c) 0 ∗ Xrow c (argA m c) 1 ∗ Xrow c (argA m c) 2 ∗ Xrow c (argA m c) 3)
    ∗ (Drow c 0 (rowAt m c 0) ∗ Drow c 1 (rowAt m c 1) ∗ Drow c 2 (rowAt m c 2) ∗ Drow c 3 (rowAt m c 3)))

/-- The buffers before step `n`. -/
def stage (n : ℕ) : sProp 𝕄 :=
  match n with
  | 0 => stage0 m c
  | 1 => stage1 m c
  | 2 => stage2 m c
  | 3 => stage3 m c
  | _ => stage4 m c

/-! ## The launch's own semaphores and buffers -/

/-- The kernel's semaphores: eight for the input slots, four for the output quarters. -/
abbrev osem0 : Fin 12 → SemLoc sig := fun j =>
  (![SemLoc.dma 2, SemLoc.dma 3, SemLoc.dma 4, SemLoc.dma 5, SemLoc.dma 6, SemLoc.dma 7, SemLoc.dma 8, SemLoc.dma 9,
    SemLoc.dma 10, SemLoc.dma 11, SemLoc.dma 12, SemLoc.dma 13] : Fin 12 → SemLoc sig) j

theorem ownSemFacts0 : Pipeline.OwnSemFacts spec0 osem0 := by decide

/-- The semaphores at rest, by the piece each belongs to. -/
theorem ownSems00_eq :
    (Pipeline.ownSems0 (Ix := Unit) (Name := ℕ) (U := Pipeline.UD sig nD τ) (Lvl := ℕ) (Val := Elt F) (τ := τ) osem0 c : sProp 𝕄)
      = iprop(cnt c (inSem 0 0) ∗ cnt c (inSem 0 1) ∗ cnt c (inSem 0 2) ∗ cnt c (inSem 0 3)
        ∗ cnt c (inSem 1 0) ∗ cnt c (inSem 1 1) ∗ cnt c (inSem 1 2) ∗ cnt c (inSem 1 3)
        ∗ cnt c (outSem 0) ∗ cnt c (outSem 1) ∗ cnt c (outSem 2) ∗ cnt c (outSem 3)) := by
  rw [Pipeline.ownSems0_eq_of_list c osem0 [0, 1, 2, 3, 4, 5, 6, 7, 8, 9, 10, 11] (by decide) (by decide)]; rfl

/-- The argument, which the kernel reads itself. -/
def H0 : Finset (Ref sig .tc) := {main_arg0}
/-- The result, which the kernel writes itself. -/
def R0 : Finset (Ref sig .tc) := {main_v0}
theorem H0_sub : H0 ⊆ Pipeline.restRefs sig spec0 := by decide
theorem R0_sub : R0 ⊆ Pipeline.restRefs sig spec0 \ H0 := by decide

theorem readPts0_eq :
    (bigSep H0 (fun b => ((c : Thread nD τ).loc b) ↦{fullShare} V m c b) : sProp 𝕄)
      = ((c : Thread nD τ).loc main_arg0) ↦{fullShare} V m c main_arg0 := by
  rw [BI.bigSep_eq_bigSepL_of_eq [main_arg0] (by decide) (by decide)]; rfl

theorem writtenPts0_eq (W : (b : Ref sig .tc) → Buf (Elt F) ((c : Thread nD τ).loc b)) :
    (Pipeline.routed R0 c W : sProp 𝕄) = ((c : Thread nD τ).loc main_v0) ↦{fullShare} W main_v0 :=
  Pipeline.routed_singleton main_v0 c W

/-- What the buffers hold in the end: the result what the model says, all others what they held. -/
def outG (b : Ref sig .tc) : Buf (Elt F) ((c : Thread nD τ).loc b) :=
  if h : b = main_v0 then h ▸ (outAt m c : Buf (Elt F) ((c : Thread nD τ).loc main_v0)) else V m c b

theorem outG_result : outG m c main_v0 = outAt m c := by
  unfold outG; rw [dif_pos rfl]

/-! ## Entering and leaving -/

/-- A buffer whole, seen through the memref of all of it. -/
theorem at_whole (b : Ref sig .tc) (f : Buf (Elt F) ((c : Thread nD τ).loc b)) :
    (at_ c (Memref.whole b) f : sProp 𝕄) = ((c : Thread nD τ).loc b) ↦{fullShare} f :=
  congrArg (fun I => (((c : Thread nD τ).loc b) ↦[I]{fullShare} f : sProp 𝕄)) (View.set_whole b)

theorem whole_some (b : Ref sig .tc) :
    (iprop(∃ f : Buf (Elt F) ((c : Thread nD τ).loc b), ((c : Thread nD τ).loc b) ↦{fullShare} f) : sProp 𝕄)
      ⊢ iprop(∃ f, at_ c (Memref.whole b) f) := by
  iintro ⟨%f, H⟩
  iexists f
  iapply (show ((((c : Thread nD τ).loc b) ↦{fullShare} f : sProp 𝕄) ⊢ at_ c (Memref.whole b) f) from (at_whole c b f).ge)
  iexact H

theorem some_whole (b : Ref sig .tc) :
    (iprop(∃ f, at_ c (Memref.whole b) f) : sProp 𝕄)
      ⊢ iprop(∃ f : Buf (Elt F) ((c : Thread nD τ).loc b), ((c : Thread nD τ).loc b) ↦{fullShare} f) := by
  iintro ⟨%f, H⟩
  iexists f
  iapply (show ((at_ c (Memref.whole b) f : sProp 𝕄) ⊢ ((c : Thread nD τ).loc b) ↦{fullShare} f) from (at_whole c b f).le)
  iexact H

/-- What the launch hands over is stage 0. -/
theorem enter : (Pipeline.ΦDRG osem0 spec0 H0 R0 (V m) (V m) c : sProp 𝕄) ⊢ iprop(stage0 m c ∗ ∃ r, prngReg c r) := by
  rw [Pipeline.ΦDRG_eq, scopedRest0_eq, ownSems00_eq, readPts0_eq, writtenPts0_eq, arg_rows]
  unfold stage0
  iintro ⟨⟨S0, S1, S2, ⟨%f3, S3⟩, ⟨%f4, S4⟩⟩, Hg, ⟨Q0, Q1, Q2, Q3, Q4, Q5, Q6, Q7, Q8, Q9, Q10, Q11⟩, HX, HO⟩
  ihave S3 := (slots_split c f3) $$ S3
  icases S3 with ⟨⟨A0, A1, A2, A3⟩, ⟨B0, B1, B2, B3⟩⟩
  ihave S4 := (quarts_split c f4) $$ S4
  icases S4 with ⟨U0, U1, U2, U3⟩
  ihave HO := (out_rows c _) $$ HO
  isplitr [Hg]
  · isplitl [S0 S1 S2]
    · isplitl [S0]; · iapply (whole_some c cc0_scratch0); iexact S0
      isplitl [S1]; · iapply (whole_some c cc0_scratch1); iexact S1
      iapply (whole_some c cc0_scratch2); iexact S2
    isplitl [A0 A1 A2 A3 Q0 Q1 Q2 Q3]
    · isplitl [A0 Q0]; · isplitl [A0]; · iexact A0
                         iexact Q0
      isplitl [A1 Q1]; · isplitl [A1]; · iexact A1
                         iexact Q1
      isplitl [A2 Q2]; · isplitl [A2]; · iexact A2
                         iexact Q2
      isplitl [A3]; · iexact A3
      iexact Q3
    isplitl [B0 B1 B2 B3 Q4 Q5 Q6 Q7]
    · isplitl [B0 Q4]; · isplitl [B0]; · iexact B0
                         iexact Q4
      isplitl [B1 Q5]; · isplitl [B1]; · iexact B1
                         iexact Q5
      isplitl [B2 Q6]; · isplitl [B2]; · iexact B2
                         iexact Q6
      isplitl [B3]; · iexact B3
      iexact Q7
    isplitl [U0 U1 U2 U3 Q8 Q9 Q10 Q11]
    · isplitl [U0 Q8]; · isplitl [U0]; · iexact U0
                         iexact Q8
      isplitl [U1 Q9]; · isplitl [U1]; · iexact U1
                         iexact Q9
      isplitl [U2 Q10]; · isplitl [U2]; · iexact U2
                          iexact Q10
      isplitl [U3]; · iexact U3
      iexact Q11
    isplitl [HX]; · iexact HX
    iexact HO
  iexact Hg

/-- The last stage is what the launch takes back. -/
theorem leave : (iprop(stage4 m c ∗ ∃ r, prngReg c r) : sProp 𝕄) ⊢ Pipeline.ΦDRG osem0 spec0 H0 R0 (V m) (outG m) c := by
  rw [Pipeline.ΦDRG_eq, scopedRest0_eq, ownSems00_eq, readPts0_eq, writtenPts0_eq, arg_rows, outG_result]
  unfold stage4
  iintro ⟨⟨⟨⟨%f0, S0, -⟩, ⟨%f1, S1, -⟩, ⟨%f2, S2, -⟩⟩,
    ⟨⟨⟨%a0, A0⟩, Q0⟩, ⟨A1, Q1⟩, ⟨A2, Q2⟩, ⟨A3, Q3⟩⟩, ⟨⟨B0, Q4⟩, ⟨B1, Q5⟩, ⟨B2, Q6⟩, ⟨B3, Q7⟩⟩,
    ⟨⟨⟨%u0, U0⟩, Q8⟩, ⟨U1, Q9⟩, ⟨U2, Q10⟩, ⟨U3, Q11⟩⟩, HX, HD⟩, Hg⟩
  isplitl [S0 S1 S2 A0 A1 A2 A3 B0 B1 B2 B3 U0 U1 U2 U3]
  · isplitl [S0]; · iapply (some_whole c cc0_scratch0); iexists f0; iexact S0
    isplitl [S1]; · iapply (some_whole c cc0_scratch1); iexists f1; iexact S1
    isplitl [S2]; · iapply (some_whole c cc0_scratch2); iexists f2; iexact S2
    isplitl [A0 A1 A2 A3 B0 B1 B2 B3]
    · iapply (slots_join c a0)
      isplitl [A0 A1 A2 A3]
      · isplitl [A0]; · iexists a0; iexact A0
        isplitl [A1]; · iexact A1
        isplitl [A2]; · iexact A2
        iexact A3
      isplitl [B0]; · iexact B0
      isplitl [B1]; · iexact B1
      isplitl [B2]; · iexact B2
      iexact B3
    iapply (quarts_join c u0)
    isplitl [U0]; · iexists u0; iexact U0
    isplitl [U1]; · iexact U1
    isplitl [U2]; · iexact U2
    iexact U3
  isplitl [Hg]; · iexact Hg
  isplitl [Q0 Q1 Q2 Q3 Q4 Q5 Q6 Q7 Q8 Q9 Q10 Q11]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    iexact Q11
  isplitl [HX]; · iexact HX
  iapply (out_glued c (rowAt m c))
  iexact HD

/-! ## The windows -/

/-- The first window shows the triangular matrix at every step. -/
theorem iblk_tri (t : Fin cfg0.N) : iblk m c 0 t = triT m c := by
  funext x
  refine congrArg (V m c main_call0_cst) (funext fun a => Fin.ext ?_)
  fin_cases a
  · show 0 * 128 + 1 * (x 0).val = (x 0).val; omega
  · show 0 * 128 + 1 * (x 1).val = (x 1).val; omega

/-- The second window shows the mask at every step. -/
theorem iblk_mask (t : Fin cfg0.N) : iblk m c 1 t = maskM m c := by
  funext x
  refine congrArg (V m c main_call0_cst_0) (funext fun a => Fin.ext ?_)
  fin_cases a
  · show 0 * 128 + 1 * (x 0).val = (x 0).val; omega
  · show 0 * 128 + 1 * (x 1).val = (x 1).val; omega

/-- The proof data: both windows as they are, the buffers in the stage of the step. -/
def dats (_ : Fin 1) (c : Dev nD) : Dat τ (Elt F) Unit ℕ (Pipeline.UD sig nD τ) ℕ cfg0 c where
  A w := V m c (Pipeline.arrRef spec0 w)
  after w t := match w with
    | ⟨0, _⟩ => triT m c
    | ⟨1, _⟩ => maskM m c
  Φ n := iprop(stage m c n.val ∗ ∃ r, prngReg c r)
  q _ := fullShare
  owed _ := 0

theorem A_eq (c : Dev nD) (w : Fin cfg0.W) : (dats m 0 c).A w = V m c (Pipeline.arrRef spec0 w) := by
  dsimp only [dats]

theorem after_tri (t : Fin cfg0.N) : (dats m 0 c).after 0 t = iblk m c 0 t :=
  (show (dats m 0 c).after 0 t = triT m c by dsimp only [dats]).trans (iblk_tri m c t).symm

theorem after_mask (t : Fin cfg0.N) : (dats m 0 c).after 1 t = iblk m c 1 t :=
  (show (dats m 0 c).after 1 t = maskM m c by dsimp only [dats]).trans (iblk_mask m c t).symm

/-- The first window holds the triangular matrix whenever a step begins. -/
theorem before_tri (t : Fin cfg0.N) (d) : (dats m 0 c).before 0 t d = triT m c :=
  (((dats m 0 c).before_in_eq_fetched 0 rfl (fun _ => rfl) (fun _ _ _ => rfl)
    (fun t => by rw [after_tri]; unfold Dat.blockOf iblk; rw [A_eq]; try rfl) t d).trans
    (by unfold Dat.fetched Dat.blockOf; rw [A_eq]; rfl : _ = iblk m c 0 t)).trans (iblk_tri m c t)

/-- The second window holds the mask whenever a step begins. -/
theorem before_mask (t : Fin cfg0.N) (d) : (dats m 0 c).before 1 t d = maskM m c :=
  (((dats m 0 c).before_in_eq_fetched 1 rfl (fun _ => rfl) (fun _ _ _ => rfl)
    (fun t => by rw [after_mask]; unfold Dat.blockOf iblk; rw [A_eq]; try rfl) t d).trans
    (by unfold Dat.fetched Dat.blockOf; rw [A_eq]; rfl : _ = iblk m c 1 t)).trans (iblk_mask m c t)

end

end Cert.KernelIdeal.Scan
-- ==== Proof.Run.lean ====
module

public import proofs.«01_k».proof.Proof.Launch

/-!
# The run

Each grid point runs its step's theorem; the launch theorem puts them together.  In the end the argument is what it was,
the result is `outAt`, and every semaphore is at rest.
-/

@[expose] public section

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD)

/-- The triangular matrix's buffer at a point, and the mask's. -/
abbrev triW (t : Fin cfg0.N) : Memref sig .tc .vmem S128x128 .bf16 := win0_0.stage (cfg0.slots t 0)
abbrev maskW (t : Fin cfg0.N) : Memref sig .tc .vmem S128x128 .f32 := win0_1.stage (cfg0.slots t 1)
theorem triW_whole (t : Fin cfg0.N) : (triW t).IsWhole := hstage0_0 ((cfg0.slots t 0).cast nbuf0_0)
theorem maskW_whole (t : Fin cfg0.N) : (maskW t).IsWhole := hstage0_1 ((cfg0.slots t 1).cast nbuf0_1)

/-- The two windows, at the matrix and the mask. -/
abbrev wins (t : Fin cfg0.N) : sProp 𝕄 :=
  iprop(owns (c : Thread nD τ) (triW t) fullShare (triT m c) ∗ owns (c : Thread nD τ) (maskW t) fullShare (maskM m c))

/-- The step at point `t` leads from `P` to `Q`. -/
abbrev Leads (t : Fin cfg0.N) (P Q : sProp 𝕄) : Prop :=
  ∀ (W : Waits sig Unit) (K : PUnit → sProp 𝕄),
    iprop(P ∗ wins m c t ∗ owes (c : Thread nD τ) 0 W
        ∗ (iprop(Q ∗ wins m c t ∗ (∃ W', owes (c : Thread nD τ) 0 W')) -∗ K ⟨⟩))
      ⊢ wp frame (wpE (defs₀ (F := F)) Variants.none (c : Thread nD τ) none) Set.univ (bodyAt0 t) K

theorem point0 : Leads m c t0_0 (stage0 m c) (stage1 m c) := by
  intro W K
  have H := first_step c (grid0.coords t0_0) (by decide) (triW t0_0) (triW_whole t0_0) (maskW t0_0) (maskW_whole t0_0)
    (triT m c) (maskM m c) (argA m c) W K
  rw [show cur (grid0.coords t0_0) = 0 by decide, show nxt (grid0.coords t0_0) = 1 by decide,
    show slot (grid0.coords t0_0) = 0 by decide, show oslot (grid0.coords t0_0) = 1 by decide] at H
  unfold stage0 stage1
  iintro ⟨⟨HT, HF0, HF1, HQ, ⟨X0, X1, X2, X3⟩, ⟨O0, O1, O2, O3⟩⟩, ⟨Ha, Hb⟩, HW, Hk⟩
  iapply H
  isplitl [Ha]; · iexact Ha
  isplitl [Hb]; · iexact Hb
  isplitl [HW]; · iexact HW
  isplitl [HT]; · iexact HT
  isplitl [HF0]; · iexact HF0
  isplitl [X0]; · iexact X0
  isplitl [HF1]; · iexact HF1
  isplitl [X1]; · iexact X1
  isplitl [HQ]; · iexact HQ
  isplitl [O0]; · iexact O0
  iintro ⟨Ha, Hb, HW, HT, HN, HF, X0, HO⟩
  iapply Hk
  isplitr [Ha Hb HW]
  · isplitl [HT]; · iexact HT
    isplitl [HN]; · iexact HN
    isplitl [HF]; · iexact HF
    isplitl [HO]; · iexact HO
    isplitl [X0 X2 X3]
    · isplitl [X0]; · iexact X0
      isplitl [X2]; · iexact X2
      iexact X3
    isplitl [O1]; · iexact O1
    isplitl [O2]; · iexact O2
    iexact O3
  isplitl [Ha Hb]
  · isplitl [Ha]; · iexact Ha
    iexact Hb
  iexact HW

theorem point1 : Leads m c t0_1 (stage1 m c) (stage2 m c) := by
  intro W K
  have H := mid_step c (grid0.coords t0_1) (by decide) (by decide) (triW t0_1) (triW_whole t0_1) (maskW t0_1)
    (maskW_whole t0_1) (triT m c) (maskM m c) (argA m c) (carryAt m c 1) (rowAt m c 0) W K
  rw [show cur (grid0.coords t0_1) = 1 by decide, show nxt (grid0.coords t0_1) = 2 by decide,
    show prv (grid0.coords t0_1) = 0 by decide,
    show slot (grid0.coords t0_1) = 1 by decide, show oslot (grid0.coords t0_1) = 0 by decide] at H
  unfold stage1 stage2
  iintro ⟨⟨HT, HN, HF, HO, ⟨X0, X2, X3⟩, ⟨O1, O2, O3⟩⟩, ⟨Ha, Hb⟩, HW, Hk⟩
  iapply H
  isplitl [Ha]; · iexact Ha
  isplitl [Hb]; · iexact Hb
  isplitl [HW]; · iexact HW
  isplitl [HT]; · iexact HT
  isplitl [HN]; · iexact HN
  isplitl [HF]; · iexact HF
  isplitl [X2]; · iexact X2
  isplitl [HO]; · iexact HO
  isplitl [O1]; · iexact O1
  iintro ⟨Ha, Hb, HW, HT, HN, HF, X1, HO, D0⟩
  iapply Hk
  isplitr [Ha Hb HW]
  · isplitl [HT]; · iexact HT
    isplitl [HN]; · iexact HN
    isplitl [HF]; · iexact HF
    isplitl [HO]; · iexact HO
    isplitl [X0 X1 X3]
    · isplitl [X0]; · iexact X0
      isplitl [X1]; · iexact X1
      iexact X3
    isplitl [D0]; · iexact D0
    isplitl [O2]; · iexact O2
    iexact O3
  isplitl [Ha Hb]
  · isplitl [Ha]; · iexact Ha
    iexact Hb
  iexact HW

theorem point2 : Leads m c t0_2 (stage2 m c) (stage3 m c) := by
  intro W K
  have H := mid_step c (grid0.coords t0_2) (by decide) (by decide) (triW t0_2) (triW_whole t0_2) (maskW t0_2)
    (maskW_whole t0_2) (triT m c) (maskM m c) (argA m c) (carryAt m c 2) (rowAt m c 1) W K
  rw [show cur (grid0.coords t0_2) = 2 by decide, show nxt (grid0.coords t0_2) = 3 by decide,
    show prv (grid0.coords t0_2) = 1 by decide,
    show slot (grid0.coords t0_2) = 0 by decide, show oslot (grid0.coords t0_2) = 1 by decide] at H
  unfold stage2 stage3
  iintro ⟨⟨HT, HN, HF, HO, ⟨X0, X1, X3⟩, ⟨D0, O2, O3⟩⟩, ⟨Ha, Hb⟩, HW, Hk⟩
  iapply H
  isplitl [Ha]; · iexact Ha
  isplitl [Hb]; · iexact Hb
  isplitl [HW]; · iexact HW
  isplitl [HT]; · iexact HT
  isplitl [HN]; · iexact HN
  isplitl [HF]; · iexact HF
  isplitl [X3]; · iexact X3
  isplitl [HO]; · iexact HO
  isplitl [O2]; · iexact O2
  iintro ⟨Ha, Hb, HW, HT, HN, HF, X2, HO, D1⟩
  iapply Hk
  isplitr [Ha Hb HW]
  · isplitl [HT]; · iexact HT
    isplitl [HN]; · iexact HN
    isplitl [HF]; · iexact HF
    isplitl [HO]; · iexact HO
    isplitl [X0 X1 X2]
    · isplitl [X0]; · iexact X0
      isplitl [X1]; · iexact X1
      iexact X2
    isplitl [D0]; · iexact D0
    isplitl [D1]; · iexact D1
    iexact O3
  isplitl [Ha Hb]
  · isplitl [Ha]; · iexact Ha
    iexact Hb
  iexact HW

theorem point3 : Leads m c t0_3 (stage3 m c) (stage4 m c) := by
  intro W K
  have H := last_step c (grid0.coords t0_3) (by decide) (triW t0_3) (triW_whole t0_3) (maskW t0_3)
    (maskW_whole t0_3) (triT m c) (maskM m c) (argA m c) (carryAt m c 3) (rowAt m c 2) W K
  rw [show cur (grid0.coords t0_3) = 3 by decide, show prv (grid0.coords t0_3) = 2 by decide,
    show slot (grid0.coords t0_3) = 1 by decide] at H
  unfold stage3 stage4
  iintro ⟨⟨HT, HN, HF, HO, ⟨X0, X1, X2⟩, ⟨D0, D1, O3⟩⟩, ⟨Ha, Hb⟩, HW, Hk⟩
  iapply H
  isplitl [Ha]; · iexact Ha
  isplitl [Hb]; · iexact Hb
  isplitl [HW]; · iexact HW
  isplitl [HT]; · iexact HT
  isplitl [HN]; · iexact HN
  isplitl [HO]; · iexact HO
  isplitl [O3]; · iexact O3
  iintro ⟨Ha, Hb, HW, HT, HF1, X3, HQ, D3, D2⟩
  iapply Hk
  isplitr [Ha Hb HW]
  · isplitl [HT]; · iexact HT
    isplitl [HF]; · iexact HF
    isplitl [HF1]; · iexact HF1
    isplitl [HQ]; · iexact HQ
    isplitl [X0 X1 X2 X3]
    · isplitl [X0]; · iexact X0
      isplitl [X1]; · iexact X1
      isplitl [X2]; · iexact X2
      iexact X3
    isplitl [D0]; · iexact D0
    isplitl [D1]; · iexact D1
    isplitl [D2]; · iexact D2
    iexact D3
  isplitl [Ha Hb]
  · isplitl [Ha]; · iexact Ha
    iexact Hb
  iexact HW

/-- Every point leads from its stage to the next. -/
theorem point (t : Fin cfg0.N) : Leads m c t (stage m c t.castSucc.val) (stage m c t.succ.val) := by
  rcases fin_N0 t with rfl | rfl | rfl | rfl
  · exact point0 m c
  · exact point1 m c
  · exact point2 m c
  · exact point3 m c

def bodyPre (t : Fin cfg0.N) : sProp 𝕄 :=
  iprop((dats m 0 c).Φ t.castSucc ∗ (dats m 0 c).owesAt () t.castSucc
    ∗ (∃ d, owns (c : Thread nD τ) (triW t) fullShare ((dats m 0 c).before 0 t d))
    ∗ (∃ d, owns (c : Thread nD τ) (maskW t) fullShare ((dats m 0 c).before 1 t d)))
def bodyPost (t : Fin cfg0.N) : sProp 𝕄 :=
  iprop((dats m 0 c).Φ t.succ ∗ (dats m 0 c).owesAt () t.succ
    ∗ owns (c : Thread nD τ) (triW t) fullShare ((dats m 0 c).after 0 t)
    ∗ owns (c : Thread nD τ) (maskW t) fullShare ((dats m 0 c).after 1 t))

theorem sound_body (t : Fin cfg0.N) :
    bodyPre m c t ⊢ wp frame (wpE (defs₀ (F := F)) Variants.none c none) Set.univ (bodyAt0 t) (fun _ => bodyPost m c t) := by
  unfold bodyPre bodyPost
  simp only [before_tri, before_mask]
  rw [show (dats m 0 c).after 0 t = triT m c by dsimp only [dats], show (dats m 0 c).after 1 t = maskM m c by dsimp only [dats]]
  rw [show (dats m 0 c).Φ t.castSucc = iprop(stage m c t.castSucc.val ∗ ∃ r, prngReg c r) from rfl,
    show (dats m 0 c).Φ t.succ = iprop(stage m c t.succ.val ∗ ∃ r, prngReg c r) from rfl]
  unfold Dat.owesAt Pipeline.owesWithin
  rw [show (dats m 0 c).owed t.castSucc = 0 from rfl, show (dats m 0 c).owed t.succ = 0 from rfl]
  iintro ⟨⟨HS, Hg⟩, ⟨%W, -, HW⟩, ⟨%d0, Ha⟩, ⟨%d1, Hb⟩⟩
  iapply (point m c t W _)
  isplitl [HS]; · iexact HS
  isplitl [Ha Hb]
  · isplitl [Ha]; · iexact Ha
    iexact Hb
  isplitl [HW]; · iexact HW
  iintro ⟨HS, ⟨Ha, Hb⟩, ⟨%W', HW⟩⟩
  isplitl [HS Hg]
  · isplitl [HS]; · iexact HS
    iexact Hg
  isplitl [HW]
  · iexists W'; isplitr; · ipureintro; exact fun _ _ => Or.inl trivial
    iexact HW
  isplitl [Ha]; · iexact Ha
  iexact Hb

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

end

/-! ## The launch -/

/-- The program up to the launch: the two constant matrices. -/
theorem before_launch (𝒱₀ : Variants) : Pipeline.HMain (Ix := Unit) (Name := ℕ) (U := Pipeline.UD sig nD τ) (Lvl := ℕ) cfgs 0 defs₀ 𝒱₀ m
    (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePostRG cfgs (dats m) 0 R0 (V m) (outG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := before_launch m Variants.none) (hA := A_eq m) (G := outG m)
    (hin := fun c => enter m c) (hout := fun c => leave m c)

/-- From any memory the program ends, with the result at `outAt`, the argument unchanged, every semaphore at rest. -/
theorem runs : θ_run defs (onTc (τ := τ) (main (F := F))) ⟨m, fun _ => 0, ρ⟩ (fun r => (∀ c : Dev nD,
      r.2.mem ((c.tc : Thread nD τ).loc main_v0) = outAt m c
      ∧ r.2.mem ((c.tc : Thread nD τ).loc main_arg0) = m ((c.tc : Thread nD τ).loc main_arg0))
      ∧ r.2.sem = fun _ => 0) :=
  (θ_run defs _ _).mono (fun _ h => ⟨fun c => ⟨(h.1.written c (b := main_v0) (by decide)).trans (outG_result m c),
    ((h.1.1 c).2 main_arg0 (Finset.mem_sdiff.mpr ⟨Pipeline.mem_restRefs_of main_arg0 (by decide) (by decide), by decide⟩)).trans
      (V_main_arg0 m c)⟩, h.2⟩) (run_main m ρ)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (runs m ρ)

end Cert.KernelIdeal.Scan
-- ==== Proof.Same.lean ====
module

public import proofs.«01_k».proof.Defs
public import proofs.«01_k».proof.Proof.Run
public import proofs.«01_k».proof.Proof.Gen.Kernel

/-!
# The two prints of the kernel are one program

`Kernel` and `KernelIdeal` are printed from the same module, and no operation is replaced: at the same floats they are the
same program.  So the frame of the one is the frame of the other.
-/

@[expose] public section

noncomputable section

namespace Cert.KernelIdeal.Scan

open Idealize.ShloMosaic Idealize.ShloMosaic.TcCoe Idealize.ShloMosaic.Tactic Idealize.SL.Sem

/-- The frame of `KernelIdeal` at the hardware's floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem frame_same : Cert.quiescent_Kernel = FrameAtBits := by sl_kernel_rfl

/-- The frame of `Kernel`. -/
theorem frame_kernel : Cert.quiescent_Kernel := frame_same ▸ fun m g _ => quiescent (F := Bits) m g

end Cert.KernelIdeal.Scan
-- ==== Proof.Tables.lean ====
/-
  The two constant tables of the program: the triangular matrix and the mask. Each is printed as 16384 literals; here they are
  read once, and from then on known by their shape.
-/
module

public import proofs.«01_k».proof.Proof.Names

@[expose] public section

noncomputable section

namespace Cert.KernelIdeal.Scan

open Cert.KernelIdeal Cert.KernelIdeal.Gen
open Idealize.ShloMosaic Idealize.ShloMosaic.TcCoe

theorem place_lt (r c : Fin 128) : 128 * r.val + c.val < 16384 := by omega

/-- The first table holds ones (as 16-bit words) on and above the diagonal, zeros below it. -/
theorem tri_words : ∀ r c : Fin 128, lit0 ⟨128 * r.val + c.val, place_lt r c⟩ = if r.val ≤ c.val then 0x3F80#16 else 0#16 := by
  decide +kernel

/-- The second table holds ones (as 32-bit words) in column 64, zeros elsewhere. -/
theorem mask_words : ∀ r c : Fin 128, lit1 ⟨128 * r.val + c.val, place_lt r c⟩ = if c.val = 64 then 0x3F800000#32 else 0#32 := by
  decide +kernel

end Cert.KernelIdeal.Scan

end
-- ==== Proof.Entries.lean ====
/-
  The two 0/1 matrices that the first step writes, read at an entry over the extended reals. The program computes them in words:
  an index divided by 128, rounded down, and compared. Here each is a plain condition on the natural numbers.
-/
module

public import proofs.«01_k».proof.Proof.Model
public import Idealize.ShloMosaic.Lib.Routing.Words
public import Idealize.ShloMosaic.Lib.IdealHost

@[expose] public section

noncomputable section

namespace Cert.KernelIdeal.Scan

open Cert.KernelIdeal Cert.KernelIdeal.Gen
open Idealize.ShloMosaic Idealize.ShloMosaic.TcCoe
open Idealize.ShloMosaic.ValueIdx

/-- The division by 128 as the program computes it on a word: the quotient, less one when the signs differ and there is a
    remainder. -/
def floorWord (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi .vector w 128#32) 0#32))
    (IntOp.subi (IntOp.divsi .vector w 128#32) 1#32) (IntOp.divsi .vector w 128#32)

/-- On a natural number it is the natural quotient. -/
theorem floorWord_nat {a : ℕ} (ha : a < 2 ^ 31) : floorWord (BitVec.ofNat 32 a) = BitVec.ofNat 32 (a / 128) := by
  have hsign : Scalar.subi (Scalar.extui (Scalar.cmpi .sgt 128#32 0#32)) (Scalar.extui (Scalar.cmpi .slt 128#32 0#32)) = 1#32 := by
    decide
  have hdiv := Routing.divsi_word .vector ha (b := 128) (by norm_num) (by norm_num)
  rcases Nat.eq_zero_or_pos a with rfl | hpos
  · decide
  · have hlt : IntOp.cmpi .slt (BitVec.ofNat 32 a) 0#32 = 0#1 := by
      simp [IntOp.cmpi, Routing.slt_ofNat32 ha (b := 0) (by norm_num)]
    have hgt : IntOp.cmpi .sgt (BitVec.ofNat 32 a) 0#32 = 1#1 := by
      simp [IntOp.cmpi, Routing.slt_ofNat32 (a := 0) (by norm_num) ha, hpos]
    have hne : IntOp.cmpi .ne (IntOp.subi ((1#1 : BitVec 1).setWidth 32) ((0#1 : BitVec 1).setWidth 32)) 1#32 = 0#1 := by
      decide
    have hand (b : BitVec 1) : IntOp.andi 0#1 b = 0#1 := by simp [IntOp.andi]
    unfold floorWord
    rw [hsign, hlt, hgt, hne, hand]
    exact hdiv

/-- The bit of a condition, widened and made a number, is one where the condition holds and zero elsewhere. -/
theorem bit_number (p : Prop) [Decidable p] :
    ((((BitVec.ofBool (decide p)).setWidth 32).toInt : ℝ) : EReal) = if p then 1 else 0 := by
  by_cases h : p <;> simp [h]

/-- An entry of the grouping matrix: column `i / 128` of row `i` is one, the rest is zero. -/
theorem Gmat_apply (i : Fin 8192) (c : Fin 128) :
    Gmat (F := Ideal) (ix2 i c) = if i.val / 128 = c.val then (1 : EReal) else 0 := by
  have hi : BitVec.ofNat 32 (0 * 8192 + i.val) = BitVec.ofNat 32 i.val := by rw [Nat.zero_mul, Nat.zero_add]
  have hc : BitVec.ofNat 32 (0 * 128 + c.val) = BitVec.ofNat 32 c.val := by rw [Nat.zero_mul, Nat.zero_add]
  have h : Gmat (F := Ideal) (ix2 i c)
      = ((((IntOp.cmpi .eq (floorWord (BitVec.ofNat 32 (0 * 8192 + i.val))) (BitVec.ofNat 32 (0 * 128 + c.val))).setWidth 32).toInt : ℝ) : EReal) := by
    unfold Gmat k0_pay3
    dsimp only
    rw [shapeCast_self]
    rfl
  rw [h, hi, hc, floorWord_nat (by omega), WordCmp.cmpi_eq_ofNat (by omega) (by omega)]
  exact bit_number _

/-- An entry of the spreading matrix: in column `j` the rows before `j / 128` are one (no more than 64 of them), and so is row
    64. The rest is zero. -/
theorem Smat_apply (d : Fin 128) (j : Fin 8320) :
    Smat (F := Ideal) (ix2 d j) = if d.val < j.val / 128 ∨ d.val = 64 then (1 : EReal) else 0 := by
  have hd : BitVec.ofNat 32 (0 * 128 + d.val) = BitVec.ofNat 32 d.val := by rw [Nat.zero_mul, Nat.zero_add]
  have hj : BitVec.ofNat 32 (0 * 8320 + j.val) = BitVec.ofNat 32 j.val := by rw [Nat.zero_mul, Nat.zero_add]
  have h : Smat (F := Ideal) (ix2 d j)
      = ((((IntOp.ori
          (IntOp.cmpi .slt (BitVec.ofNat 32 (0 * 128 + d.val)) (IntOp.minsi (floorWord (BitVec.ofNat 32 (0 * 8320 + j.val))) 64#32))
          (IntOp.cmpi .eq (BitVec.ofNat 32 (0 * 128 + d.val)) 64#32)).setWidth 32).toInt : ℝ) : EReal) := by
    unfold Smat k0_pay7
    dsimp only
    rw [shapeCast_self]
    rfl
  have hmin : IntOp.minsi (BitVec.ofNat 32 (j.val / 128)) 64#32 = BitVec.ofNat 32 (j.val / 128) := by
    unfold IntOp.minsi
    rw [Routing.slt_ofNat32 (b := 64) (by omega) (by norm_num)]
    by_cases hq : j.val / 128 < 64
    · simp [hq]
    · have : j.val / 128 = 64 := by omega
      simp [this]
  have hor (p q : Prop) [Decidable p] [Decidable q] :
      IntOp.ori (BitVec.ofBool (decide p)) (BitVec.ofBool (decide q)) = BitVec.ofBool (decide (p ∨ q)) := by
    by_cases hp : p <;> by_cases hq : q <;> simp [hp, hq, IntOp.ori]
  rw [h, hd, hj, floorWord_nat (by omega), hmin, WordCmp.cmpi_slt_ofNat (by omega) (by omega), WordCmp.cmpi_eq_ofNat (b := 64) (by omega) (by norm_num), hor]
  exact bit_number _

end Cert.KernelIdeal.Scan

end
-- ==== Proof.Prefix.lean ====
/-
  What one step computes, over the extended reals. A row of the step's four blocks is a sequence `b` of 8192 numbers. The table of
  chunk sums, spread by the second 0/1 matrix, gives the sum of all numbers before a chunk, and the triangular product completes
  it within the chunk. So the result at position `q` is what was carried plus `b 0 + … + b q`. No number need be finite: a product
  with zero is zero for every extended real, and their addition is associative and commutative.
-/
module

public import proofs.«01_k».proof.Proof.Entries
public import Idealize.ShloMosaic.Lib.MatmulPlain

@[expose] public section

noncomputable section

namespace Cert.KernelIdeal.Scan

open Cert.KernelIdeal Cert.KernelIdeal.Gen
open Idealize.ShloMosaic Idealize.ShloMosaic.TcCoe
open Idealize.ShloMosaic.ValueIdx
open scoped BigOperators

/-! ## Sums -/

/-- A product with a condition's one or zero keeps the number or drops it. -/
theorem mul_pick (x : EReal) (p : Prop) [Decidable p] : x * (if p then (1 : EReal) else 0) = if p then x else 0 := by
  rw [mul_ite, mul_one, mul_zero]

/-- A sum over `0 … N - 1` of the terms below `K ≤ N` is the sum over `0 … K - 1`. -/
theorem sum_below {N K : ℕ} (h : K ≤ N) (f : ℕ → EReal) :
    (∑ i ∈ Finset.range N, if i < K then f i else 0) = ∑ i ∈ Finset.range K, f i := by
  rw [← Finset.sum_filter]
  refine Finset.sum_congr (Finset.ext fun i => ?_) fun _ _ => rfl
  simp only [Finset.mem_filter, Finset.mem_range]
  omega

/-- Of a sum over 128 places the one place that is met remains. -/
theorem sum_place {q : ℕ} (h : q < 128) (x : EReal) : (∑ d : Fin 128, if q = d.val then x else 0) = x := by
  rw [Finset.sum_eq_single_of_mem (⟨q, h⟩ : Fin 128) (Finset.mem_univ _), if_pos rfl]
  exact fun d _ hd => if_neg fun e => hd (Fin.ext e.symm)

/-! ## The products -/

/-- The product that sums the chunks of a block, at an entry. -/
theorem gather_apply (l : FVec Ideal S128x2048 .bf16) (g : FVec Ideal S2048x128 .bf16) (r c : Fin 128) :
    matmul dot_S128x2048_S2048x128_S128x128_1_0_0_1_n_n none l g zeros (ix2 r c)
      = ∑ k : Fin 2048, (l (ix2 r k) * g (ix2 k c) : EReal) :=
  (Ideal.matmul_plain_apply (M := 128) (K := 2048) (N := 128) none l g zeros r c).trans (by
    rw [show zeros (F := Ideal) (ix2 r c) = (0 : EReal) from Ideal.ofBits_zero_f32, zero_add])

/-- A product of two tables, at an entry. -/
theorem square_apply (l g : FVec Ideal S128x128 .bf16) (r c : Fin 128) :
    matmul dot_S128x128_S128x128_S128x128_1_0_0_1_n_n none l g zeros (ix2 r c)
      = ∑ k : Fin 128, (l (ix2 r k) * g (ix2 k c) : EReal) :=
  (Ideal.matmul_plain_apply (M := 128) (K := 128) (N := 128) none l g zeros r c).trans (by
    rw [show zeros (F := Ideal) (ix2 r c) = (0 : EReal) from Ideal.ofBits_zero_f32, zero_add])

/-- A row of the grouping matrix's part for block `n`. -/
theorem subG_apply (n : Fin 4) (k : Fin 2048) (c : Fin 128) :
    subG (F := Ideal) Gmat n (ix2 k c) = if (2048 * n.val + k.val) / 128 = c.val then (1 : EReal) else 0 := by
  refine Eq.trans (congrArg Gmat ?_) (Gmat_apply ⟨2048 * n.val + k.val, by omega⟩ c)
  funext a
  fin_cases a <;> exact Fin.ext (by simp [Rect.emb_apply])

/-- A column of the spreading matrix's group `n`. -/
theorem subS_apply (n : Fin 65) (d k : Fin 128) :
    subS (F := Ideal) Smat n (ix2 d k) = if d.val < n.val ∨ d.val = 64 then (1 : EReal) else 0 := by
  refine Eq.trans (congrArg Smat ?_) ((Smat_apply d ⟨128 * n.val + k.val, by omega⟩).trans ?_)
  · funext a
    fin_cases a <;> exact Fin.ext (by simp [Rect.emb_apply])
  · rw [show (128 * n.val + k.val) / 128 = n.val by omega]

/-! ## The table of chunk sums -/

section
variable (M C : FVec Ideal S128x128 .f32) (X : Fin 4 → Blk Ideal) (r : Fin 128) (b : ℕ → EReal)

/-- Row `r` of the four blocks is the sequence `b`. -/
def RowIs : Prop := ∀ (h : Fin 4) (y : Fin 2048), X h (ix2 r y) = b (2048 * h.val + y.val)

/-- The mask: ones in column 64, zeros elsewhere. -/
def IsMask : Prop := ∀ r c : Fin 128, M (ix2 r c) = if c.val = 64 then (1 : EReal) else 0

/-- The sum of the first `N` numbers that lie in chunk `c`, after the carried number, which stands in column 64. -/
def chunkSum (x : EReal) (N : ℕ) (c : Fin 128) : EReal :=
  (if c.val = 64 then x else 0) + ∑ i ∈ Finset.range N, if i / 128 = c.val then b i else 0

variable {X r b}

/-- Block `n` adds its own numbers to the chunks they lie in. -/
theorem accum_apply (hX : RowIs X r b) (t : FVec Ideal S128x128 .f32) (n : Fin 4) (c : Fin 128) :
    accum Gmat t (X n) n (ix2 r c)
      = (t (ix2 r c) : EReal) + ∑ k ∈ Finset.range 2048, if (2048 * n.val + k) / 128 = c.val then b (2048 * n.val + k) else 0 := by
  refine congrArg (fun z : EReal => (t (ix2 r c) : EReal) + z) ((gather_apply _ _ r c).trans ?_)
  rw [Finset.sum_range]
  refine Finset.sum_congr rfl fun k _ => ?_
  rw [subG_apply, mul_pick, show truncf .bf16 (X n) bitsLt_bf16_f32 (ix2 r k) = X n (ix2 r k) from rfl, hX n k]

variable {M C}

/-- After blocks `0 … h` the table holds the chunk sums of their numbers, and the carried number in column 64. -/
theorem table_apply (hX : RowIs X r b) (hM : IsMask M) {x : EReal} (hC : ∀ c, C (ix2 r c) = x) (c : Fin 128) :
    ∀ h : ℕ, h < 4 → table M Gmat C X h (ix2 r c) = chunkSum b x (2048 * (h + 1)) c
  | 0, _ => by
    refine (accum_apply hX (mulf C M) 0 c).trans ?_
    have e : (mulf C M) (ix2 r c) = (if c.val = 64 then x else 0 : EReal) := by
      rw [mulf_apply, hM, hC, mul_pick]
    rw [e]
    simp [chunkSum]
  | h + 1, hh => by
    have hv : (Fin.ofNat 4 (h + 1)).val = h + 1 := Nat.mod_eq_of_lt hh
    refine (accum_apply hX (table M Gmat C X h) (Fin.ofNat 4 (h + 1)) c).trans ?_
    rw [table_apply hX hM hC c h (by omega), hv]
    unfold chunkSum
    rw [add_assoc, show 2048 * (h + 1 + 1) = 2048 * (h + 1) + 2048 by ring, Finset.sum_range_add]

/-- The table spread over group `n` gives, in every column, the carried number and all numbers before chunk `n`. -/
theorem spread_apply {t : FVec Ideal S128x128 .f32} {x : EReal} {N : ℕ} (ht : ∀ c, t (ix2 r c) = chunkSum b x N c)
    (n : Fin 65) (hn : 128 * n.val ≤ N) (hN : N ≤ 8192) (k : Fin 128) :
    spread Smat t n (ix2 r k) = x + ∑ i ∈ Finset.range (128 * n.val), b i := by
  have hterm (d : Fin 128) : ((truncf (F := Ideal) .bf16 t bitsLt_bf16_f32) (ix2 r d) * subS (F := Ideal) Smat n (ix2 d k) : EReal)
      = (if 64 = d.val then x else 0) + ∑ i ∈ Finset.range N, if i / 128 = d.val then (if i < 128 * n.val then b i else 0) else 0 := by
    rw [show (truncf .bf16 t bitsLt_bf16_f32) (ix2 r d) = t (ix2 r d) from rfl, ht, subS_apply, mul_pick]
    unfold chunkSum
    by_cases h64 : d.val = 64
    · have hno : ∀ y : ℕ → EReal, (∑ i ∈ Finset.range N, if i / 128 = d.val then y i else 0) = 0 := fun y =>
        Finset.sum_eq_zero fun i hi => if_neg (by rw [Finset.mem_range] at hi; omega)
      rw [if_pos (Or.inr h64), hno, hno, if_pos h64, if_pos h64.symm]
    · rw [if_neg h64, if_neg (show ¬ 64 = d.val from fun e => h64 e.symm), zero_add, zero_add]
      by_cases hd : d.val < n.val
      · rw [if_pos (Or.inl hd)]
        refine Finset.sum_congr rfl fun i _ => ?_
        by_cases hi : i / 128 = d.val
        · rw [if_pos hi, if_pos hi, if_pos (by omega)]
        · rw [if_neg hi, if_neg hi]
      · rw [if_neg (by omega)]
        refine (Finset.sum_eq_zero fun i _ => ?_).symm
        by_cases hi : i / 128 = d.val
        · rw [if_pos hi, if_neg (by omega)]
        · rw [if_neg hi]
  refine (square_apply _ _ r k).trans ?_
  rw [Finset.sum_congr rfl fun d _ => hterm d, Finset.sum_add_distrib, sum_place (by norm_num), Finset.sum_comm]
  refine congrArg (x + ·) (Eq.trans (Finset.sum_congr rfl fun i hi => sum_place ?_ _) (sum_below hn b))
  rw [Finset.mem_range] at hi
  omega

/-! ## The result of a step, and what it carries -/

/-- The triangular matrix: ones on and above the diagonal, zeros below it. -/
def IsTri (T : FVec Ideal S128x128 .bf16) : Prop := ∀ r c : Fin 128, T (ix2 r c) = if r.val ≤ c.val then (1 : EReal) else 0

variable {T : FVec Ideal S128x128 .bf16}

/-- A chunk's result at column `k`: the carried number and all numbers of the step up to that place. -/
theorem chunk_apply (hX : RowIs X r b) (hM : IsMask M) (hT : IsTri T) {x : EReal} (hC : ∀ c, C (ix2 r c) = x)
    (h : Fin 4) (n : Fin 16) (k : Fin 128) :
    chunk T Smat (table M Gmat C X h.val) (X h) h n (ix2 r k)
      = x + ∑ i ∈ Finset.range (2048 * h.val + 128 * n.val + k.val + 1), b i := by
  have hrow (d : Fin 128) : subX (X h) n (ix2 r d) = b (128 * (16 * h.val + n.val) + d.val) := by
    refine Eq.trans (congrArg (X h) ?_) ((hX h ⟨128 * n.val + d.val, by omega⟩).trans (congrArg b (by simp only []; ring)))
    funext a
    fin_cases a <;> exact Fin.ext (by simp [Rect.emb_apply])
  have htri : matmul dot_S128x128_S128x128_S128x128_1_0_0_1_n_n none (truncf .bf16 (subX (X h) n) bitsLt_bf16_f32) T zeros (ix2 r k)
      = ∑ d ∈ Finset.range (k.val + 1), b (128 * (16 * h.val + n.val) + d) := by
    refine (square_apply _ _ r k).trans ?_
    rw [← sum_below (N := 128) (by omega) fun d => b (128 * (16 * h.val + n.val) + d), Finset.sum_range]
    refine Finset.sum_congr rfl fun d _ => ?_
    rw [hT, mul_pick, show (truncf .bf16 (subX (X h) n) bitsLt_bf16_f32) (ix2 r d) = subX (X h) n (ix2 r d) from rfl, hrow]
    exact if_congr (by omega) rfl rfl
  have hoff : spread Smat (table M Gmat C X h.val) ⟨16 * h.val + n.val, group_lt h n⟩ (ix2 r k)
      = x + ∑ i ∈ Finset.range (128 * (16 * h.val + n.val)), b i :=
    spread_apply (fun c => table_apply hX hM hC c h.val h.isLt) _ (by simp only []; omega) (by omega) k
  unfold chunk
  rw [shapeCast_self, addf_apply, htri, hoff, add_comm, add_assoc, ← Finset.sum_range_add]
  congr 3
  ring

/-- The result of block `h` at column `y`. -/
theorem result_apply (hX : RowIs X r b) (hM : IsMask M) (hT : IsTri T) {x : EReal} (hC : ∀ c, C (ix2 r c) = x)
    (h : Fin 4) (y : Fin 2048) :
    result T M Gmat Smat C X h (ix2 r y) = x + ∑ i ∈ Finset.range (2048 * h.val + y.val + 1), b i := by
  refine (chunk_apply hX hM hT hC h ⟨y.val / 128, by omega⟩ ⟨y.val % 128, Nat.mod_lt _ (by norm_num)⟩).trans ?_
  refine congrArg (fun N => x + ∑ i ∈ Finset.range N, b i) ?_
  simp only []
  omega

/-- What a step carries on, the same in every column: what it found and the sum of its 8192 numbers. -/
theorem carryOut_apply (hX : RowIs X r b) (hM : IsMask M) {x : EReal} (hC : ∀ c, C (ix2 r c) = x) (k : Fin 128) :
    carryOut M Gmat Smat C X (ix2 r k) = x + ∑ i ∈ Finset.range 8192, b i := by
  unfold carryOut
  rw [shapeCast_self]
  exact spread_apply (fun c => table_apply hX hM hC c 3 (by norm_num)) 64 (by norm_num) (by norm_num) k

/-- The first step finds nothing carried. -/
theorem carry0_apply (r k : Fin 128) : carry0 (F := Ideal) (ix2 r k) = (0 : EReal) := by
  unfold carry0 k0_pay2 k0_pay1
  dsimp only
  rw [shapeCast_self]
  exact Ideal.ofBits_zero_f32

end

end Cert.KernelIdeal.Scan

end
-- ==== Proof.Reference.lean ====
/-
  The reference, over the extended reals. It is printed as a sum over a window as wide as a row, padded below; here it is read at
  an entry as the sum of the row up to that entry.
-/
module

public import proofs.«01_k».proof.Proof.Gen.ReferenceIdeal.Run
public import Idealize.ShloMosaic.Lib.ValueIdxCore
public import Idealize.ShloMosaic.PureOps.Ideal.Laws

@[expose] public section

noncomputable section

namespace Cert.ReferenceIdeal.Scan

open Cert.ReferenceIdeal Cert.ReferenceIdeal.Gen
open Idealize.ShloMosaic Idealize.ShloMosaic.TcCoe
open Idealize.ShloMosaic.ValueIdx
open scoped BigOperators

/-- Adding up a list from a start is the start plus the list's sum. -/
theorem foldl_sum {α : Type} (g : α → EReal) : ∀ (l : List α) (s : EReal), l.foldl (fun s n => s + g n) s = s + (l.map g).sum
  | [], s => by simp
  | n :: l, s => by
    rw [List.foldl_cons, foldl_sum g l, List.map_cons, List.sum_cons, add_assoc]

/-- A window of `L + 1` places that reaches place `q` with its last one covers the places `0 … q`, and before them padding. -/
theorem sum_padded (L q : ℕ) (hq : q ≤ L) (f : ℕ → EReal) :
    (∑ n ∈ Finset.range (L + 1), if L ≤ q + n then f (q + n - L) else 0) = ∑ i ∈ Finset.range (q + 1), f i := by
  rw [show L + 1 = (L - q) + (q + 1) by omega, Finset.sum_range_add, Finset.sum_eq_zero fun n hn => ?_, zero_add]
  · refine Finset.sum_congr rfl fun n _ => ?_
    rw [if_pos (by omega), show q + (L - q + n) - L = n by omega]
  · rw [Finset.mem_range] at hn
    exact if_neg (by omega)

/-- A row of an array as a sequence, zero past its end. -/
def rowSeq {R N : ℕ} (A : (⟨2, ![R, N]⟩ : Shape).Idx → EReal) (r : Fin R) (n : ℕ) : EReal :=
  if h : n < N then A (ix2 r ⟨n, h⟩) else 0

/-- The index of place `n` in a window one row high is `(0, n)`. -/
theorem window_place {N : ℕ} (n : Fin (⟨2, ![1, N]⟩ : Shape).numel) :
    ((⟨2, ![1, N]⟩ : Shape).rowMajor.symm n 0).val = 0 ∧ ((⟨2, ![1, N]⟩ : Shape).rowMajor.symm n 1).val = n.val := by
  have h0 : ((⟨2, ![1, N]⟩ : Shape).rowMajor.symm n 0).val < 1 := ((⟨2, ![1, N]⟩ : Shape).rowMajor.symm n 0).isLt
  have h := Shape.rowMajor_val_two ((⟨2, ![1, N]⟩ : Shape).rowMajor.symm n)
  rw [Equiv.apply_symm_apply] at h
  have e : ((⟨2, ![1, N]⟩ : Shape).rowMajor.symm n 0).val = 0 := by omega
  rw [e, Nat.zero_mul, Nat.zero_add] at h
  exact ⟨e, h.symm⟩

/-- The padded window sum from zero, at an entry: the sum of the row up to and including that entry. -/
theorem window_apply {R L : ℕ} (A : (⟨2, ![R, L + 1]⟩ : Shape).Idx → EReal)
    (h : (⟨2, ![R, L + 1]⟩ : Shape).ReduceWindows (![1, L + 1] : Fin 2 → ℕ) ![1, 1] ![0, L] ![0, 0] ⟨2, ![R, L + 1]⟩)
    (r : Fin R) (q : Fin (L + 1)) :
    Ideal.hostReduceWindowAdd ![1, L + 1] ![1, 1] ![0, L] ![0, 0] h A 0 (ix2 r q)
      = ∑ i ∈ Finset.range (q.val + 1), rowSeq A r i := by
  have hr := r.isLt
  have hq := q.isLt
  unfold Ideal.hostReduceWindowAdd Host.reduceWindow
  refine (foldl_sum _ _ _).trans ?_
  rw [zero_add, ← Fin.sum_univ_def, ← sum_padded L q.val (by omega) (rowSeq A r)]
  have hN : (⟨2, ![1, L + 1]⟩ : Shape).numel = L + 1 := by simp [Shape.numel]
  refine Eq.trans ?_ ((Finset.sum_range (n := (⟨2, ![1, L + 1]⟩ : Shape).numel)
    fun n => if L ≤ q.val + n then rowSeq A r (q.val + n - L) else 0).symm.trans (by rw [hN]))
  refine Finset.sum_congr rfl fun n _ => ?_
  have hn : n.val < L + 1 := lt_of_lt_of_eq n.isLt hN
  obtain ⟨w0, w1⟩ := window_place n
  have hfit : (∀ a : Fin 2, (![0, L] : Fin 2 → ℕ) a ≤ (ix2 r q a).val * (![1, 1] : Fin 2 → ℕ) a + ((⟨2, ![1, L + 1]⟩ : Shape).rowMajor.symm n a).val
      ∧ (ix2 r q a).val * (![1, 1] : Fin 2 → ℕ) a + ((⟨2, ![1, L + 1]⟩ : Shape).rowMajor.symm n a).val - (![0, L] : Fin 2 → ℕ) a
        < (⟨2, ![R, L + 1]⟩ : Shape).size a) ↔ L ≤ q.val + n.val := by
    rw [Fin.forall_fin_two]
    show (0 ≤ r.val * 1 + ((⟨2, ![1, L + 1]⟩ : Shape).rowMajor.symm n 0).val
        ∧ r.val * 1 + ((⟨2, ![1, L + 1]⟩ : Shape).rowMajor.symm n 0).val - 0 < R)
      ∧ (L ≤ q.val * 1 + ((⟨2, ![1, L + 1]⟩ : Shape).rowMajor.symm n 1).val
        ∧ q.val * 1 + ((⟨2, ![1, L + 1]⟩ : Shape).rowMajor.symm n 1).val - L < L + 1) ↔ _
    rw [w0, w1]
    omega
  by_cases hin : L ≤ q.val + n.val
  · rw [if_pos hin, rowSeq, dif_pos (show q.val + n.val - L < L + 1 by omega)]
    refine (dif_pos (hfit.mpr hin)).trans (congrArg A (funext fun a => Fin.ext ?_))
    match a with
    | ⟨0, _⟩ =>
      show r.val * 1 + ((⟨2, ![1, L + 1]⟩ : Shape).rowMajor.symm n 0).val - 0 = r.val
      rw [w0]; omega
    | ⟨1, _⟩ =>
      show q.val * 1 + ((⟨2, ![1, L + 1]⟩ : Shape).rowMajor.symm n 1).val - L = q.val + n.val - L
      rw [w1]; omega
  · rw [if_neg hin]
    exact dif_neg fun hf => hin (hfit.mp hf)

/-- The reference's result, at an entry: the sum of the argument's row up to and including that entry. -/
theorem reference_apply (A : FVec Ideal S128x32768 .f32) (r : Fin 128) (q : Fin 32768) :
    Host.reduceWindowAdd (F := Ideal) ![1, 32768] ![1, 1] ![0, 32767] ![0, 0] A
        (broadcastInDim S_ ![] bcast_S_S_ (constant S_ .f32 0x00000000#32)) reduceWindows_S128x32768_S128x32768_w1s1p0_0_w32768s1p32767_0 h_S_
        (ix2 r q)
      = ∑ i ∈ Finset.range (q.val + 1), rowSeq (R := 128) (N := 32768) A r i := by
  have h0 : (broadcastInDim S_ ![] bcast_S_S_ (constant (F := Ideal) S_ .f32 0x00000000#32)) (Shape.Idx.first h_S_) = (0 : EReal) :=
    Ideal.ofBits_zero_f32
  unfold Host.reduceWindowAdd
  rw [h0]
  exact window_apply (R := 128) (L := 32767) A _ r q

end Cert.ReferenceIdeal.Scan

end
-- ==== Proof.Value.lean ====
/-
  The kernel's result over the extended reals: at every entry it is the sum of the argument's row up to and including that entry.
-/
module

public import proofs.«01_k».proof.Proof.Tables
public import proofs.«01_k».proof.Proof.Prefix
public import proofs.«01_k».proof.Proof.Launch
public import proofs.«01_k».proof.Proof.Reference
public import Idealize.ShloMosaic.Lib.StableHlo.Run

@[expose] public section

noncomputable section

namespace Cert.KernelIdeal.Scan

open Cert.KernelIdeal Cert.KernelIdeal.Gen
open Idealize.ShloMosaic Idealize.ShloMosaic.TcCoe
open Idealize.ShloMosaic.ValueIdx
open Cert.ReferenceIdeal.Scan (rowSeq)
open scoped BigOperators

variable (m : (ℓ : Loc nD τ sig) → Buf (Elt Ideal) ℓ) (c : Dev nD)

/-! ## The two constant tables -/

/-- Where an entry of a 128 × 128 table stands in row-major order. -/
theorem place (r k : Fin 128) : S128x128.rowMajor (ix2 r k) = (⟨128 * r.val + k.val, place_lt r k⟩ : Fin 16384) :=
  Fin.ext ((Shape.rowMajor_val_two (d := ![128, 128]) (ix2 r k)).trans
    (show r.val * 128 + k.val = 128 * r.val + k.val by omega))

/-- The first constant is the triangular matrix. -/
theorem triT_isTri : IsTri (triT m c) := fun r k => by
  have h : triT m c = fun i => FloatOps.ofBits .bf16 (lit0 (S128x128.rowMajor i)) := by
    unfold triT
    simp only [V, hostOps0, StableHlo.TRef.nullary, StableHlo.TRef.toBuf, cast_eq]
    after_results
  rw [h]
  show Ideal.ofBits .bf16 (lit0 (S128x128.rowMajor (ix2 r k))) = _
  rw [place, tri_words]
  by_cases hk : r.val ≤ k.val
  · rw [if_pos hk, if_pos hk]; exact Ideal.ofBits_one_bf16
  · rw [if_neg hk, if_neg hk]; exact Ideal.ofBits_zero_bf16

/-- The second constant is the mask. -/
theorem maskM_isMask : IsMask (maskM m c) := fun r k => by
  have h : maskM m c = fun i => FloatOps.ofBits .f32 (lit1 (S128x128.rowMajor i)) := by
    unfold maskM
    simp only [V, hostOps0, StableHlo.TRef.nullary, StableHlo.TRef.toBuf, cast_eq]
    after_results
  rw [h]
  show Ideal.ofBits .f32 (lit1 (S128x128.rowMajor (ix2 r k))) = _
  rw [place, mask_words]
  by_cases hk : k.val = 64
  · rw [if_pos hk, if_pos hk]; exact Ideal.ofBits_one_f32
  · rw [if_neg hk, if_neg hk]; exact Ideal.ofBits_zero_f32

/-! ## The result -/

/-- Row `r` of the argument as a sequence. -/
def argRow (r : Fin 128) : ℕ → EReal := rowSeq (R := 128) (N := 32768) (argA m c) r

/-- Step `k` reads the numbers `8192 k …` of the row. -/
theorem argBlk_rowIs (k : Fin 4) (r : Fin 128) : RowIs (argBlk c (argA m c) k) r fun i => argRow m c r (8192 * k.val + i) := by
  intro h y
  have hlt : 8192 * k.val + (2048 * h.val + y.val) < 32768 := by omega
  show (argA m c) ((Rect.unit (s := S128x32768) (blkOff k h) S128x2048.size (blkOff_inb k h)).emb (ix2 r y)) = _
  refine Eq.trans ?_ (dif_pos hlt).symm
  refine congrArg (argA m c) (funext fun a => Fin.ext ?_)
  fin_cases a
  · show 0 + 1 * r.val = r.val
    omega
  · show 8192 * k.val + 2048 * h.val + 1 * y.val = 8192 * k.val + (2048 * h.val + y.val)
    omega

/-- What is carried before step `n`: in every column the sum of the row's numbers before the step. -/
theorem carryAt_apply (r : Fin 128) : ∀ n : ℕ, n ≤ 4 → ∀ k : Fin 128,
    carryAt m c n (ix2 r k) = ∑ i ∈ Finset.range (8192 * n), argRow m c r i
  | 0, _, k => by rw [Nat.mul_zero, Finset.sum_range_zero]; exact carry0_apply r k
  | n + 1, hn, k => by
    have hv : (Fin.ofNat 4 n).val = n := Nat.mod_eq_of_lt hn
    have hX := argBlk_rowIs m c (Fin.ofNat 4 n) r
    rw [hv] at hX
    refine (carryOut_apply hX (maskM_isMask m c) (carryAt_apply r n (by omega)) k).trans ?_
    rw [← Finset.sum_range_add, Nat.mul_succ]

/-- An entry of the kernel's result: the sum of the argument's row up to and including that entry. -/
theorem outAt_apply (r : Fin 128) (q : Fin 32768) :
    outAt m c (ix2 r q) = ∑ i ∈ Finset.range (q.val + 1), argRow m c r i := by
  have hk : q.val / 8192 < 4 := by omega
  have hh : q.val % 8192 / 2048 < 4 := by omega
  have hy : q.val % 2048 < 2048 := Nat.mod_lt _ (by norm_num)
  show rowAt m c ⟨q.val / 8192, hk⟩ ⟨q.val % 8192 / 2048, hh⟩ (ix2 r ⟨q.val % 2048, hy⟩) = _
  refine (result_apply (argBlk_rowIs m c ⟨q.val / 8192, hk⟩ r) (maskM_isMask m c) (triT_isTri m c)
    (carryAt_apply m c r (q.val / 8192) (by omega)) ⟨q.val % 8192 / 2048, hh⟩ ⟨q.val % 2048, hy⟩).trans ?_
  rw [← Finset.sum_range_add]
  refine congrArg (fun N => ∑ i ∈ Finset.range N, argRow m c r i) ?_
  simp only []
  omega

/-- The kernel's result is the reference's, for the same argument. -/
theorem outAt_eq (A : FVec Ideal S128x32768 .f32) (hA : m ((c : Thread nD τ).loc main_arg0) = A) :
    outAt m c = Host.reduceWindowAdd (F := Ideal) ![1, 32768] ![1, 1] ![0, 32767] ![0, 0] A
      (broadcastInDim Cert.ReferenceIdeal.S_ ![] Cert.ReferenceIdeal.Gen.bcast_S_S_ (constant Cert.ReferenceIdeal.S_ .f32 0x00000000#32))
      Cert.ReferenceIdeal.Gen.reduceWindows_S128x32768_S128x32768_w1s1p0_0_w32768s1p32767_0 Cert.ReferenceIdeal.Gen.h_S_ := by
  funext i
  obtain ⟨r, q, rfl⟩ : ∃ (r : Fin 128) (q : Fin 32768), i = ix2 r q := ⟨i 0, i 1, eq_ix2 i⟩
  refine (outAt_apply m c r q).trans ((Cert.ReferenceIdeal.Scan.reference_apply A r q).trans ?_).symm
  unfold argRow
  rw [show argA m c = A from (V_main_arg0 m c).trans hA]

end Cert.KernelIdeal.Scan

end
-- ==== Proof.lean ====
module

public import proofs.«01_k».proof.Defs
public import proofs.«01_k».proof.Proof.Same
public import proofs.«01_k».proof.Proof.Run
public import proofs.«01_k».proof.Proof.Value
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The frame of the idealized kernel. -/
theorem frame_pi : Cert.quiescent_KernelIdeal := fun m g _ => Cert.KernelIdeal.Scan.quiescent (F := Ideal) m g

/-- The frame of the reference. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel and the reference, from memories that agree on the argument, end with the same result. -/
theorem algebraic : Cert.algebraic_KernelIdeal_ReferenceIdeal := fun m g m' g' _ hagree =>
  ⟨fun c => Cert.KernelIdeal.Scan.outAt m c,
    (θ_run Cert.KernelIdeal.defs _ _).mono (fun _ h => h.1) (Cert.KernelIdeal.Scan.runs (F := Ideal) m g),
    (θ_run Cert.ReferenceIdeal.defs _ _).mono
      (fun _ h c => ⟨(h c).1.trans (Cert.KernelIdeal.Scan.outAt_eq m c _ (hagree c).symm).symm, (h c).2⟩)
      (Cert.ReferenceIdeal.Value.run (F := Ideal) m' g')⟩

/-- Everything that is claimed. -/
theorem claim : Cert.Claim :=
  ⟨Cert.Kernel.Gen.facts, Cert.KernelIdeal.Gen.facts, Cert.ReferenceIdeal.Gen.facts,
    Cert.KernelIdeal.Scan.frame_kernel, frame_pi, frame_ri, trivial, algebraic⟩

end Cert.Proof

end
